-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_encoder_finite [hPre_encoder_finite : Cert.Pre_encoder_finite.Facts] (m : (ℓ : Loc Cert.KernelIdeal.nD Cert.KernelIdeal.τ Cert.KernelIdeal.sig) → Buf (Elt Ideal) ℓ) : Prop :=
  ∀ c : Dev Cert.KernelIdeal.nD,
    (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_encoder_finite [hPre_encoder_finite : Cert.Pre_encoder_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_encoder_finite [hKernelIdeal : Cert.KernelIdeal.Facts] [hPre_encoder_finite : Cert.Pre_encoder_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_encoder_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_encoder_finite [hReferenceIdeal : Cert.ReferenceIdeal.Facts] [hPre_encoder_finite : Cert.Pre_encoder_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_encoder_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_encoder_finite [hKernelIdeal : Cert.KernelIdeal.Facts] [hReferenceIdeal : Cert.ReferenceIdeal.Facts] [hPre_encoder_finite : Cert.Pre_encoder_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_encoder_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v19_3)) (v4 : (c : Dev Cert.KernelIdeal.nD) → Buf (Elt Ideal) ((c.tc : Thread Cert.KernelIdeal.nD Cert.KernelIdeal.τ).loc Cert.KernelIdeal.main_v19_4)) (v5 : (c : Dev Cert.KernelIdeal.nD) → Buf (Elt Ideal) ((c.tc : Thread Cert.KernelIdeal.nD Cert.KernelIdeal.τ).loc Cert.KernelIdeal.main_v19_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_v19_3) = v3 c
          ∧ r.2.mem ((c.tc : Thread Cert.KernelIdeal.nD Cert.KernelIdeal.τ).loc Cert.KernelIdeal.main_v19_4) = v4 c
          ∧ r.2.mem ((c.tc : Thread Cert.KernelIdeal.nD Cert.KernelIdeal.τ).loc Cert.KernelIdeal.main_v19_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v133) = v2 c
          ∧ r.2.mem ((c.tc : Thread Cert.ReferenceIdeal.nD Cert.ReferenceIdeal.τ).loc Cert.ReferenceIdeal.main_v134) = v3 c
          ∧ r.2.mem ((c.tc : Thread Cert.ReferenceIdeal.nD Cert.ReferenceIdeal.τ).loc Cert.ReferenceIdeal.main_v135) = v4 c
          ∧ r.2.mem ((c.tc : Thread Cert.ReferenceIdeal.nD Cert.ReferenceIdeal.τ).loc Cert.ReferenceIdeal.main_v136) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_encoder_finite : Cert.Pre_encoder_finite.Facts),
    quiescent_Kernel (hKernel := hKernel)
    ∧ quiescent_KernelIdeal (hKernelIdeal := hKernelIdeal)
    ∧ quiescent_KernelIdeal_pre_encoder_finite (hKernelIdeal := hKernelIdeal) (hPre_encoder_finite := hPre_encoder_finite)
    ∧ quiescent_ReferenceIdeal (hReferenceIdeal := hReferenceIdeal)
    ∧ quiescent_ReferenceIdeal_pre_encoder_finite (hReferenceIdeal := hReferenceIdeal) (hPre_encoder_finite := hPre_encoder_finite)
    ∧ preserves_Kernel_KernelIdeal
    ∧ algebraic_KernelIdeal_ReferenceIdeal_pre_encoder_finite (hKernelIdeal := hKernelIdeal) (hReferenceIdeal := hReferenceIdeal) (hPre_encoder_finite := hPre_encoder_finite)
-- ==== Pre_encoder_finite.lean ====
abbrev S64x128x64x64 : Shape := ⟨4, ![64, 128, 64, 64]⟩
abbrev S64x1x3 : Shape := ⟨3, ![64, 1, 3]⟩
abbrev S64 : Shape := ⟨1, ![64]⟩
abbrev S64x64x3 : Shape := ⟨3, ![64, 64, 3]⟩
abbrev S8192x64 : Shape := ⟨2, ![8192, 64]⟩
abbrev S128x64 : Shape := ⟨2, ![128, 64]⟩
abbrev S128 : Shape := ⟨1, ![128]⟩
abbrev S_ : Shape := ⟨0, ![]⟩

class Facts : Prop where
  bcast_S_S64x128x64x64 : S_.BroadcastsInDim S64x128x64x64 (![] : Fin 0 → Fin S64x128x64x64.rank)
  reducesTo_S64x128x64x64_S_d0_1_2_3 : S64x128x64x64.ReducesTo [0, 1, 2, 3] S_
  h_S_ : 0 < S_.numel
  bcast_S_S64x1x3 : S_.BroadcastsInDim S64x1x3 (![] : Fin 0 → Fin S64x1x3.rank)
  reducesTo_S64x1x3_S_d0_1_2 : S64x1x3.ReducesTo [0, 1, 2] S_
  bcast_S_S64 : S_.BroadcastsInDim S64 (![] : Fin 0 → Fin S64.rank)
  reducesTo_S64_S_d0 : S64.ReducesTo [0] S_
  bcast_S_S64x64x3 : S_.BroadcastsInDim S64x64x3 (![] : Fin 0 → Fin S64x64x3.rank)
  reducesTo_S64x64x3_S_d0_1_2 : S64x64x3.ReducesTo [0, 1, 2] S_

variable [Facts]

def fn_part2 {F : FTy → Type} [FloatOps F] (main_arg7 : FVec F S64x64x3 .f32) (main_arg8 : FVec F S64 .f32) (main_v33 : IVec S_ 1) : IVec S_ 1 :=
  let main_v34 : FVec F S64x64x3 .f32 := Host.absf main_arg7
  let main_cst_12 : FVec F S_ .f32 := constant S_ .f32 0x7F800000#32
  let main_v35 : FVec F S64x64x3 .f32 := broadcastInDim S64x64x3 ![] bcast_S_S64x64x3 main_cst_12
  let main_v36 : IVec S64x64x3 1 := cmpf .olt main_v34 main_v35
  let main_c_13 : IVec S_ 1 := constantI S_ 1 1#1
  let main_v37 : IVec S_ 1 := (fun x v => Host.reduce IntOp.andi x v reducesTo_S64x64x3_S_d0_1_2 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x64x3 .f32) (main_arg6 : FVec F S64 .f32) (main_arg7 : FVec F S64x64x3 .f32) (main_arg8 : FVec F S64 .f32) (main_v13 : IVec S_ 1) (main_v16 : IVec S64x64x3 1) : IVec S_ 1 :=
  let main_c_5 : IVec S_ 1 := constantI S_ 1 1#1
  let main_v17 : IVec S_ 1 := (fun x v => Host.reduce IntOp.andi x v reducesTo_S64x64x3_S_d0_1_2 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64x3 .f32 := Host.absf main_arg5
  let main_cst_8 : FVec F S_ .f32 := constant S_ .f32 0x7F800000#32
  let main_v25 : FVec F S64x64x3 .f32 := broadcastInDim S64x64x3 ![] bcast_S_S64x64x3 main_cst_8
  let main_v26 : IVec S64x64x3 1 := cmpf .olt main_v24 main_v25
  let main_c_9 : IVec S_ 1 := constantI S_ 1 1#1
  let main_v27 : IVec S_ 1 := (fun x v => Host.reduce IntOp.andi x v reducesTo_S64x64x3_S_d0_1_2 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S64x128x64x64 .f32) (main_arg1 : FVec F S64x1x3 .f32) (main_arg2 : FVec F S64 .f32) (main_arg3 : FVec F S64x64x3 .f32) (main_arg4 : FVec F S64 .f32) (main_arg5 : FVec F S64x64x3 .f32) (main_arg6 : FVec F S64 .f32) (main_arg7 : FVec F S64x64x3 .f32) (main_arg8 : FVec F S64 .f32) (main_arg9 : FVec F S8192x64 .f32) (main_arg10 : FVec F S128x64 .f32) (main_arg11 : FVec F S128 .f32) : IVec S_ 1 :=
  let main_v0 : FVec F S64x128x64x64 .f32 := Host.absf main_arg0
  let main_cst : FVec F S_ .f32 := constant S_ .f32 0x7F800000#32
  let main_v1 : FVec F S64x128x64x64 .f32 := broadcastInDim S64x128x64x64 ![] bcast_S_S64x128x64x64 main_cst
  let main_v2 : IVec S64x128x64x64 1 := cmpf .olt main_v0 main_v1
  let main_c : IVec S_ 1 := constantI S_ 1 1#1
  let main_v3 : IVec S_ 1 := (fun x v => Host.reduce IntOp.andi x v reducesTo_S64x128x64x64_S_d0_1_2_3 h_S_) main_v2 main_c
  let main_v4 : FVec F S64x1x3 .f32 := Host.absf main_arg1
  let main_cst_0 : FVec F S_ .f32 := constant S_ .f32 0x7F800000#32
  let main_v5 : FVec F S64x1x3 .f32 := broadcastInDim S64x1x3 ![] bcast_S_S64x1x3 main_cst_0
  let main_v6 : IVec S64x1x3 1 := cmpf .olt main_v4 main_v5
  let main_c_1 : IVec S_ 1 := constantI S_ 1 1#1
  let main_v7 : IVec S_ 1 := (fun x v => Host.reduce IntOp.andi x v reducesTo_S64x1x3_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64x3 .f32 := Host.absf main_arg3
  let main_cst_4 : FVec F S_ .f32 := constant S_ .f32 0x7F800000#32
  let main_v15 : FVec F S64x64x3 .f32 := broadcastInDim S64x64x3 ![] bcast_S_S64x64x3 main_cst_4
  let main_v16 : IVec S64x64x3 1 := cmpf .olt main_v14 main_v15
  fn_part1 (F := F) main_arg4 main_arg5 main_arg6 main_arg7 main_arg8 main_v13 main_v16
-- ==== Kernel.lean ====
abbrev S64x128x64x64 : Shape := ⟨4, ![64, 128, 64, 64]⟩
abbrev S64x1x3 : Shape := ⟨3, ![64, 1, 3]⟩
abbrev S64 : Shape := ⟨1, ![64]⟩
abbrev S64x64x3 : Shape := ⟨3, ![64, 64, 3]⟩
abbrev S8192x64 : Shape := ⟨2, ![8192, 64]⟩
abbrev S128x64 : Shape := ⟨2, ![128, 64]⟩
abbrev S128 : Shape := ⟨1, ![128]⟩
abbrev S64x64x64x128 : Shape := ⟨4, ![64, 64, 64, 128]⟩
abbrev S262144x128 : Shape := ⟨2, ![262144, 128]⟩
abbrev S64x3 : Shape := ⟨2, ![64, 3]⟩
abbrev S3x64x64 : Shape := ⟨3, ![3, 64, 64]⟩
abbrev S192x64 : Shape := ⟨2, ![192, 64]⟩
abbrev S64x192 : Shape := ⟨2, ![64, 192]⟩
abbrev S64x8192 : Shape := ⟨2, ![64, 8192]⟩
abbrev S64x128 : Shape := ⟨2, ![64, 128]⟩
abbrev S64x1 : Shape := ⟨2, ![64, 1]⟩
abbrev S1x128 : Shape := ⟨2, ![1, 128]⟩
abbrev S64x64 : Shape := ⟨2, ![64, 64]⟩
abbrev S1x1 : Shape := ⟨2, ![1, 1]⟩
abbrev S32768x128 : Shape := ⟨2, ![32768, 128]⟩
abbrev S8x128 : Shape := ⟨2, ![8, 128]⟩
abbrev S8x64 : Shape := ⟨2, ![8, 64]⟩
abbrev S8x1 : Shape := ⟨2, ![8, 1]⟩
abbrev S1x8192 : Shape := ⟨2, ![1, 8192]⟩
abbrev S8x1024 : Shape := ⟨2, ![8, 1024]⟩
abbrev S1x1024 : Shape := ⟨2, ![1, 1024]⟩
abbrev S8192 : Shape := ⟨1, ![8192]⟩
abbrev S8x4096x128 : Shape := ⟨3, ![8, 4096, 128]⟩
abbrev S1024 : Shape := ⟨1, ![1024]⟩
abbrev S1x1023 : Shape := ⟨2, ![1, 1023]⟩
abbrev S64x1024 : Shape := ⟨2, ![64, 1024]⟩
abbrev S64x1023 : Shape := ⟨2, ![64, 1023]⟩
abbrev S192x1024 : Shape := ⟨2, ![192, 1024]⟩
abbrev S8 : Shape := ⟨1, ![8]⟩
abbrev S8x8192 : Shape := ⟨2, ![8, 8192]⟩
abbrev S1 : Shape := ⟨1, ![1]⟩

abbrev nBuf : Space → Nat
  | .hbm => 37
  | .vmem => 29
  | .smem => 0
  | _ => 0

abbrev bufTy : (tb : Table) → Fin (tcTables nBuf tb) → BufTy
  | .hbm, ⟨0, _⟩ => ⟨S64x128x64x64, .f32⟩
  | .hbm, ⟨1, _⟩ => ⟨S64x1x3, .f32⟩
  | .hbm, ⟨2, _⟩ => ⟨S64, .f32⟩
  | .hbm, ⟨3, _⟩ => ⟨S64x64x3, .f32⟩
  | .hbm, ⟨4, _⟩ => ⟨S64, .f32⟩
  | .hbm, ⟨5, _⟩ => ⟨S64x64x3, .f32⟩
  | .hbm, ⟨6, _⟩ => ⟨S64, .f32⟩
  | .hbm, ⟨7, _⟩ => ⟨S64x64x3, .f32⟩
  | .hbm, ⟨8, _⟩ => ⟨S64, .f32⟩
  | .hbm, ⟨9, _⟩ => ⟨S8192x64, .f32⟩
  | .hbm, ⟨10, _⟩ => ⟨S128x64, .f32⟩
  | .hbm, ⟨11, _⟩ => ⟨S128, .f32⟩
  | .hbm, ⟨12, _⟩ => ⟨S64x64x64x128, .f32⟩
  | .hbm, ⟨13, _⟩ => ⟨S262144x128, .f32⟩
  | .hbm, ⟨14, _⟩ => ⟨S64x3, .f32⟩
  | .hbm, ⟨15, _⟩ => ⟨S3x64x64, .f32⟩
  | .hbm, ⟨16, _⟩ => ⟨S192x64, .f32⟩
  | .hbm, ⟨17, _⟩ => ⟨S64x192, .f32⟩
  | .hbm, ⟨18, _⟩ => ⟨S3x64x64, .f32⟩
  | .hbm, ⟨19, _⟩ => ⟨S192x64, .f32⟩
  | .hbm, ⟨20, _⟩ => ⟨S64x192, .f32⟩
  | .hbm, ⟨21, _⟩ => ⟨S3x64x64, .f32⟩
  | .hbm, ⟨22, _⟩ => ⟨S192x64, .f32⟩
  | .hbm, ⟨23, _⟩ => ⟨S64x192, .f32⟩
  | .hbm, ⟨24, _⟩ => ⟨S64x8192, .f32⟩
  | .hbm, ⟨25, _⟩ => ⟨S64x128, .f32⟩
  | .hbm, ⟨26, _⟩ => ⟨S64x1, .f32⟩
  | .hbm, ⟨27, _⟩ => ⟨S64x1, .f32⟩
  | .hbm, ⟨28, _⟩ => ⟨S64x1, .f32⟩
  | .hbm, ⟨29, _⟩ => ⟨S64x1, .f32⟩
  | .hbm, ⟨30, _⟩ => ⟨S1x128, .f32⟩
  | .hbm, ⟨31, _⟩ => ⟨S64x128, .f32⟩
  | .hbm, ⟨32, _⟩ => ⟨S64x64, .f32⟩
  | .hbm, ⟨33, _⟩ => ⟨S64x1, .i32⟩
  | .hbm, ⟨34, _⟩ => ⟨S1x1, .f32⟩
  | .hbm, ⟨35, _⟩ => ⟨S1x1, .f32⟩
  | .hbm, ⟨36, _⟩ => ⟨S1x1, .f32⟩
  | .local _ .vmem, ⟨0, _⟩ => ⟨S32768x128, .f32⟩
  | .local _ .vmem, ⟨1, _⟩ => ⟨S32768x128, .f32⟩
  | .local _ .vmem, ⟨2, _⟩ => ⟨S64x3, .f32⟩
  | .local _ .vmem, ⟨3, _⟩ => ⟨S64x1, .f32⟩
  | .local _ .vmem, ⟨4, _⟩ => ⟨S64x192, .f32⟩
  | .local _ .vmem, ⟨5, _⟩ => ⟨S64x1, .f32⟩
  | .local _ .vmem, ⟨6, _⟩ => ⟨S64x192, .f32⟩
  | .local _ .vmem, ⟨7, _⟩ => ⟨S64x1, .f32⟩
  | .local _ .vmem, ⟨8, _⟩ => ⟨S64x192, .f32⟩
  | .local _ .vmem, ⟨9, _⟩ => ⟨S64x1, .f32⟩
  | .local _ .vmem, ⟨10, _⟩ => ⟨S8192x64, .f32⟩
  | .local _ .vmem, ⟨11, _⟩ => ⟨S64x8192, .f32⟩
  | .local _ .vmem, ⟨12, _⟩ => ⟨S64x128, .f32⟩
  | .local _ .vmem, ⟨13, _⟩ => ⟨S1x128, .f32⟩
  | .local _ .vmem, ⟨14, _⟩ => ⟨S8x128, .f32⟩
  | .local _ .vmem, ⟨15, _⟩ => ⟨S8x128, .f32⟩
  | .local _ .vmem, ⟨16, _⟩ => ⟨S8x64, .f32⟩
  | .local _ .vmem, ⟨17, _⟩ => ⟨S8x64, .f32⟩
  | .local _ .vmem, ⟨18, _⟩ => ⟨S8x1, .i32⟩
  | .local _ .vmem, ⟨19, _⟩ => ⟨S8x1, .i32⟩
  | .local _ .vmem, ⟨20, _⟩ => ⟨S1x1, .f32⟩
  | .local _ .vmem, ⟨21, _⟩ => ⟨S1x1, .f32⟩
  | .local _ .vmem, ⟨22, _⟩ => ⟨S1x1, .f32⟩
  | .local _ .vmem, ⟨23, _⟩ => ⟨S1x8192, .f32⟩
  | .local _ .vmem, ⟨24, _⟩ => ⟨S1x1, .f32⟩
  | .local _ .vmem, ⟨25, _⟩ => ⟨S1x1, .f32⟩
  | .local _ .vmem, ⟨26, _⟩ => ⟨S8x1024, .f32⟩
  | .local _ .vmem, ⟨27, _⟩ => ⟨S1x1024, .f32⟩
  | .local _ .vmem, ⟨28, _⟩ => ⟨S1x1024, .f32⟩
  | _, _ => ⟨S64x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev main_v19_4 : Ref sig .tc := ⟨.hbm, 35, rfl⟩
abbrev main_v19_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem17_0 : DmaSem sig := 21
abbrev cc0_sem18_0 : DmaSem sig := 22

abbrev nD : Nat := 1
abbrev τ : Topo := Topo.v7x

variable {F : FTy → Type} [FloatOps F]

abbrev grid0 : Pipeline.Grid := ⟨1, ![8], ![false]⟩

def k0_cond4 (i : grid0.Coords) : BitVec 1 :=
  let arg0 : BitVec 32 := BitVec.ofNat 32 (i 0).val
  let c7_i32 : BitVec 32 := 7#32
  let v165 : BitVec 1 := Scalar.cmpi .eq arg0 c7_i32
  let v166 : BitVec 32 := Scalar.extui v165
  let c0_i32_74 : BitVec 32 := 0#32
  let v167 : BitVec 1 := Scalar.cmpi .ne v166 c0_i32_74
  v167

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8192x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x1 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S64x128x64x64 : Shape := ⟨4, ![64, 128, 64, 64]⟩
abbrev S64x1x3 : Shape := ⟨3, ![64, 1, 3]⟩
abbrev S64 : Shape := ⟨1, ![64]⟩
abbrev S64x64x3 : Shape := ⟨3, ![64, 64, 3]⟩
abbrev S8192x64 : Shape := ⟨2, ![8192, 64]⟩
abbrev S128x64 : Shape := ⟨2, ![128, 64]⟩
abbrev S128 : Shape := ⟨1, ![128]⟩
abbrev S_ : Shape := ⟨0, ![]⟩
abbrev S64x128 : Shape := ⟨2, ![64, 128]⟩
abbrev S64x1x128 : Shape := ⟨3, ![64, 1, 128]⟩
abbrev S64x1x130 : Shape := ⟨3, ![64, 1, 130]⟩
abbrev S64x1x1 : Shape := ⟨3, ![64, 1, 1]⟩
abbrev S64x1 : Shape := ⟨2, ![64, 1]⟩
abbrev S64x128x64 : Shape := ⟨3, ![64, 128, 64]⟩
abbrev S64x64x128 : Shape := ⟨3, ![64, 64, 128]⟩
abbrev S1x64x1 : Shape := ⟨3, ![1, 64, 1]⟩
abbrev S64x64x130 : Shape := ⟨3, ![64, 64, 130]⟩
abbrev S64x64x1 : Shape := ⟨3, ![64, 64, 1]⟩
abbrev S64x64 : Shape := ⟨2, ![64, 64]⟩
abbrev S64x8192 : Shape := ⟨2, ![64, 8192]⟩
abbrev S8192 : Shape := ⟨1, ![8192]⟩
abbrev S1x8192 : Shape := ⟨2, ![1, 8192]⟩
abbrev S1 : Shape := ⟨1, ![1]⟩
abbrev S1x1 : Shape := ⟨2, ![1, 1]⟩
abbrev S1x128 : Shape := ⟨2, ![1, 128]⟩

abbrev nBuf : Space → Nat
  | .hbm => 205
  | .vmem => 0
  | .smem => 0
  | _ => 0

abbrev hbmTy0_0 (i : Nat) : BufTy := match i % 128 with
  | 0 => ⟨S64x128x64x64, .f32⟩
  | 1 => ⟨S64x1x3, .f32⟩
  | 2 => ⟨S64, .f32⟩
  | 3 => ⟨S64x64x3, .f32⟩
  | 4 => ⟨S64, .f32⟩
  | 5 => ⟨S64x64x3, .f32⟩
  | 6 => ⟨S64, .f32⟩
  | 7 => ⟨S64x64x3, .f32⟩
  | 8 => ⟨S64, .f32⟩
  | 9 => ⟨S8192x64, .f32⟩
  | 10 => ⟨S128x64, .f32⟩
  | 11 => ⟨S128, .f32⟩
  | 12 => ⟨S_, .f32⟩
  | 13 => ⟨S64x128, .f32⟩
  | 14 => ⟨S_, .f32⟩
  | 15 => ⟨S64x128, .f32⟩
  | 16 => ⟨S64x128, .f32⟩
  | 17 => ⟨S64x1x128, .f32⟩
  | 18 => ⟨S_, .i32⟩
  | 19 => ⟨S_, .f32⟩
  | 20 => ⟨S64x1x130, .f32⟩
  | 21 => ⟨S64x1x1, .f32⟩
  | 22 => ⟨S64x1, .f32⟩
  | 23 => ⟨S64x1x128, .f32⟩
  | 24 => ⟨S64x128x64, .f32⟩
  | 25 => ⟨S64x64x128, .f32⟩
  | 26 => ⟨S64x1x1, .f32⟩
  | 27 => ⟨S64x1, .f32⟩
  | 28 => ⟨S64x1x128, .f32⟩
  | 29 => ⟨S64x128x64, .f32⟩
  | 30 => ⟨S64x64x128, .f32⟩
  | 31 => ⟨S64x1x1, .f32⟩
  | 32 => ⟨S64x1, .f32⟩
  | 33 => ⟨S64x1x128, .f32⟩
  | 34 => ⟨S64x128x64, .f32⟩
  | 35 => ⟨S64x64x128, .f32⟩
  | 36 => ⟨S64x64x128, .f32⟩
  | 37 => ⟨S64x64x128, .f32⟩
  | 38 => ⟨S1x64x1, .f32⟩
  | 39 => ⟨S64x64x128, .f32⟩
  | 40 => ⟨S64x64x128, .f32⟩
  | 41 => ⟨S_, .f32⟩
  | 42 => ⟨S64x64x128, .f32⟩
  | 43 => ⟨S64x64x128, .f32⟩
  | 44 => ⟨S_, .i32⟩
  | 45 => ⟨S_, .f32⟩
  | 46 => ⟨S64x64x130, .f32⟩
  | 47 => ⟨S64x64x1, .f32⟩
  | 48 => ⟨S64x64, .f32⟩
  | 49 => ⟨S64x64x128, .f32⟩
  | 50 => ⟨S64x128x64, .f32⟩
  | 51 => ⟨S64x64x128, .f32⟩
  | 52 => ⟨S64x64x1, .f32⟩
  | 53 => ⟨S64x64, .f32⟩
  | 54 => ⟨S64x64x128, .f32⟩
  | 55 => ⟨S64x128x64, .f32⟩
  | 56 => ⟨S64x64x128, .f32⟩
  | 57 => ⟨S64x64x1, .f32⟩
  | 58 => ⟨S64x64, .f32⟩
  | 59 => ⟨S64x64x128, .f32⟩
  | 60 => ⟨S64x128x64, .f32⟩
  | 61 => ⟨S64x64x128, .f32⟩
  | 62 => ⟨S64x64x128, .f32⟩
  | 63 => ⟨S64x64x128, .f32⟩
  | 64 => ⟨S1x64x1, .f32⟩
  | 65 => ⟨S64x64x128, .f32⟩
  | 66 => ⟨S64x64x128, .f32⟩
  | 67 => ⟨S_, .f32⟩
  | 68 => ⟨S64x64x128, .f32⟩
  | 69 => ⟨S64x64x128, .f32⟩
  | 70 => ⟨S_, .i32⟩
  | 71 => ⟨S_, .f32⟩
  | 72 => ⟨S64x64x130, .f32⟩
  | 73 => ⟨S64x64x1, .f32⟩
  | 74 => ⟨S64x64, .f32⟩
  | 75 => ⟨S64x64x128, .f32⟩
  | 76 => ⟨S64x128x64, .f32⟩
  | 77 => ⟨S64x64x128, .f32⟩
  | 78 => ⟨S64x64x1, .f32⟩
  | 79 => ⟨S64x64, .f32⟩
  | 80 => ⟨S64x64x128, .f32⟩
  | 81 => ⟨S64x128x64, .f32⟩
  | 82 => ⟨S64x64x128, .f32⟩
  | 83 => ⟨S64x64x1, .f32⟩
  | 84 => ⟨S64x64, .f32⟩
  | 85 => ⟨S64x64x128, .f32⟩
  | 86 => ⟨S64x128x64, .f32⟩
  | 87 => ⟨S64x64x128, .f32⟩
  | 88 => ⟨S64x64x128, .f32⟩
  | 89 => ⟨S64x64x128, .f32⟩
  | 90 => ⟨S1x64x1, .f32⟩
  | 91 => ⟨S64x64x128, .f32⟩
  | 92 => ⟨S64x64x128, .f32⟩
  | 93 => ⟨S_, .f32⟩
  | 94 => ⟨S64x64x128, .f32⟩
  | 95 => ⟨S64x64x128, .f32⟩
  | 96 => ⟨S_, .i32⟩
  | 97 => ⟨S_, .f32⟩
  | 98 => ⟨S64x64x130, .f32⟩
  | 99 => ⟨S64x64x1, .f32⟩
  | 100 => ⟨S64x64, .f32⟩
  | 101 => ⟨S64x64x128, .f32⟩
  | 102 => ⟨S64x128x64, .f32⟩
  | 103 => ⟨S64x64x128, .f32⟩
  | 104 => ⟨S64x64x1, .f32⟩
  | 105 => ⟨S64x64, .f32⟩
  | 106 => ⟨S64x64x128, .f32⟩
  | 107 => ⟨S64x128x64, .f32⟩
  | 108 => ⟨S64x64x128, .f32⟩
  | 109 => ⟨S64x64x1, .f32⟩
  | 110 => ⟨S64x64, .f32⟩
  | 111 => ⟨S64x64x128, .f32⟩
  | 112 => ⟨S64x128x64, .f32⟩
  | 113 => ⟨S64x64x128, .f32⟩
  | 114 => ⟨S64x64x128, .f32⟩
  | 115 => ⟨S64x64x128, .f32⟩
  | 116 => ⟨S1x64x1, .f32⟩
  | 117 => ⟨S64x64x128, .f32⟩
  | 118 => ⟨S64x64x128, .f32⟩
  | 119 => ⟨S_, .f32⟩
  | 120 => ⟨S64x64x128, .f32⟩
  | 121 => ⟨S64x64x128, .f32⟩
  | 122 => ⟨S_, .f32⟩
  | 123 => ⟨S64x64, .f32⟩
  | 124 => ⟨S_, .f32⟩
  | 125 => ⟨S64x64, .f32⟩
  | 126 => ⟨S64x64, .f32⟩
  | 127 => ⟨S64x64, .f32⟩
  | _ => ⟨S64x128x64x64, .f32⟩

abbrev hbmTy0_1 (i : Nat) : BufTy := match i % 128 with
  | 0 => ⟨S_, .f32⟩
  | 1 => ⟨S64, .f32⟩
  | 2 => ⟨S64x1, .f32⟩
  | 3 => ⟨S_, .f32⟩
  | 4 => ⟨S64x64, .f32⟩
  | 5 => ⟨S64x64, .f32⟩
  | 6 => ⟨S64x8192, .f32⟩
  | 7 => ⟨S64x8192, .f32⟩
  | 8 => ⟨S64x8192, .f32⟩
  | 9 => ⟨S64x8192, .f32⟩
  | 10 => ⟨S8192x64, .f32⟩
  | 11 => ⟨S_, .f32⟩
  | 12 => ⟨S8192, .f32⟩
  | 13 => ⟨S1x8192, .f32⟩
  | 14 => ⟨S64x8192, .f32⟩
  | 15 => ⟨S64x8192, .f32⟩
  | 16 => ⟨S64x8192, .i32⟩
  | 17 => ⟨S_, .f32⟩
  | 18 => ⟨S_, .i32⟩
  | 19 => ⟨S64, .f32⟩
  | 20 => ⟨S64, .i32⟩
  | 21 => ⟨S_, .i32⟩
  | 22 => ⟨S64, .i32⟩
  | 23 => ⟨S64, .i1⟩
  | 24 => ⟨S_, .i32⟩
  | 25 => ⟨S64, .i32⟩
  | 26 => ⟨S64, .i32⟩
  | 27 => ⟨S64, .i32⟩
  | 28 => ⟨S64x1, .i32⟩
  | 29 => ⟨S1, .i32⟩
  | 30 => ⟨S_, .i32⟩
  | 31 => ⟨S64x1, .i32⟩
  | 32 => ⟨S64x1, .i1⟩
  | 33 => ⟨S1x1, .i32⟩
  | 34 => ⟨S64x1, .i32⟩
  | 35 => ⟨S64x1, .i1⟩
  | 36 => ⟨S64x1, .i1⟩
  | 37 => ⟨S_, .i1⟩
  | 38 => ⟨S64, .i1⟩
  | 39 => ⟨S64x64, .f32⟩
  | 40 => ⟨S64x64, .i1⟩
  | 41 => ⟨S_, .f32⟩
  | 42 => ⟨S64x64, .f32⟩
  | 43 => ⟨S64x64, .f32⟩
  | 44 => ⟨S64x64, .f32⟩
  | 45 => ⟨S64x64, .f32⟩
  | 46 => ⟨S64x128, .f32⟩
  | 47 => ⟨S64x128, .f32⟩
  | 48 => ⟨S1x128, .f32⟩
  | 49 => ⟨S64x128, .f32⟩
  | 50 => ⟨S64x128, .f32⟩
  | 51 => ⟨S64x128, .f32⟩
  | 52 => ⟨S64x128, .f32⟩
  | 53 => ⟨S_, .f32⟩
  | 54 => ⟨S_, .f32⟩
  | 55 => ⟨S_, .f32⟩
  | 56 => ⟨S_, .f32⟩
  | 57 => ⟨S64x64, .f32⟩
  | 58 => ⟨S64x64, .f32⟩
  | 59 => ⟨S_, .f32⟩
  | 60 => ⟨S_, .f32⟩
  | 61 => ⟨S_, .f32⟩
  | 62 => ⟨S_, .f32⟩
  | 63 => ⟨S64x64, .f32⟩
  | 64 => ⟨S64x64, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S64x1, .i32⟩
  | 74 => ⟨S1x1, .f32⟩
  | 75 => ⟨S1x1, .f32⟩
  | 76 => ⟨S1x1, .f32⟩
  | _ => ⟨S64x128x64x64, .f32⟩

abbrev hbmTy (i : Nat) : BufTy := match i / 128 with
  | 0 => hbmTy0_0 i
  | 1 => hbmTy0_1 i
  | _ => ⟨S64x128x64x64, .f32⟩

abbrev bufTy : (tb : Table) → Fin (tcTables nBuf tb) → BufTy
  | .hbm, ⟨i, _⟩ => hbmTy i
  | _, _ => ⟨S64x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call1_cst : Ref sig .tc := ⟨.hbm, 41, rfl⟩
abbrev main_call1_v0 : Ref sig .tc := ⟨.hbm, 42, rfl⟩
abbrev main_v25 : Ref sig .tc := ⟨.hbm, 43, rfl⟩
abbrev main_c_1 : Ref sig .tc := ⟨.hbm, 44, rfl⟩
abbrev main_call2_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call3_cst : Ref sig .tc := ⟨.hbm, 67, rfl⟩
abbrev main_call3_v0 : Ref sig .tc := ⟨.hbm, 68, rfl⟩
abbrev main_v47 : Ref sig .tc := ⟨.hbm, 69, rfl⟩
abbrev main_c_2 : Ref sig .tc := ⟨.hbm, 70, rfl⟩
abbrev main_call4_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call5_cst : Ref sig .tc := ⟨.hbm, 93, rfl⟩
abbrev main_call5_v0 : Ref sig .tc := ⟨.hbm, 94, rfl⟩
abbrev main_v69 : Ref sig .tc := ⟨.hbm, 95, rfl⟩
abbrev main_c_3 : Ref sig .tc := ⟨.hbm, 96, rfl⟩
abbrev main_call6_v0 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_call7_cst : Ref sig .tc := ⟨.hbm, 119, rfl⟩
abbrev main_call7_v0 : Ref sig .tc := ⟨.hbm, 120, rfl⟩
abbrev main_v91 : Ref sig .tc := ⟨.hbm, 121, rfl⟩
abbrev main_cst_4 : Ref sig .tc := ⟨.hbm, 122, rfl⟩
abbrev main_v92 : Ref sig .tc := ⟨.hbm, 123, rfl⟩
abbrev main_cst_5 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_6 : Ref sig .tc := ⟨.hbm, 128, rfl⟩
abbrev main_v96 : Ref sig .tc := ⟨.hbm, 129, rfl⟩
abbrev main_v97 : Ref sig .tc := ⟨.hbm, 130, rfl⟩
abbrev main_cst_7 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_8 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_call8_v0 : Ref sig .tc := ⟨.hbm, 144, rfl⟩
abbrev main_call8_cst : Ref sig .tc := ⟨.hbm, 145, rfl⟩
abbrev main_call8_c : Ref sig .tc := ⟨.hbm, 146, rfl⟩
abbrev main_call8_v1_0 : Ref sig .tc := ⟨.hbm, 147, rfl⟩
abbrev main_v109 : Ref sig .tc := ⟨.hbm, 148, rfl⟩
abbrev main_call9_c : Ref sig .tc := ⟨.hbm, 149, rfl⟩
abbrev main_call9_v0 : Ref sig .tc := ⟨.hbm, 150, rfl⟩
abbrev main_call9_v1 : Ref sig .tc := ⟨.hbm, 151, rfl⟩
abbrev main_call9_c_0 : Ref sig .tc := ⟨.hbm, 152, rfl⟩
abbrev main_call9_v2 : Ref sig .tc := ⟨.hbm, 153, rfl⟩
abbrev main_call9_v3 : Ref sig .tc := ⟨.hbm, 154, rfl⟩
abbrev main_call9_v4 : Ref sig .tc := ⟨.hbm, 155, rfl⟩
abbrev main_call9_v5 : Ref sig .tc := ⟨.hbm, 156, rfl⟩
abbrev main_call9_c_1 : Ref sig .tc := ⟨.hbm, 157, rfl⟩
abbrev main_call9_c_2 : Ref sig .tc := ⟨.hbm, 158, rfl⟩
abbrev main_call9_v6 : Ref sig .tc := ⟨.hbm, 159, rfl⟩
abbrev main_call9_v7 : Ref sig .tc := ⟨.hbm, 160, rfl⟩
abbrev main_call9_v8 : Ref sig .tc := ⟨.hbm, 161, rfl⟩
abbrev main_call9_v9 : Ref sig .tc := ⟨.hbm, 162, rfl⟩
abbrev main_call9_v10 : Ref sig .tc := ⟨.hbm, 163, rfl⟩
abbrev main_call9_v11 : Ref sig .tc := ⟨.hbm, 164, rfl⟩
abbrev main_call9_c_3 : Ref sig .tc := ⟨.hbm, 165, rfl⟩
abbrev main_call9_v12 : Ref sig .tc := ⟨.hbm, 166, rfl⟩
abbrev main_call9_v13 : Ref sig .tc := ⟨.hbm, 167, rfl⟩
abbrev main_call9_v14 : Ref sig .tc := ⟨.hbm, 168, rfl⟩
abbrev main_call9_cst : Ref sig .tc := ⟨.hbm, 169, rfl⟩
abbrev main_call9_v15 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_cst_9 : Ref sig .tc := ⟨.hbm, 181, rfl⟩
abbrev main_v120 : Ref sig .tc := ⟨.hbm, 182, rfl⟩
abbrev main_cst_10 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_cst_11 : Ref sig .tc := ⟨.hbm, 187, rfl⟩
abbrev main_v124 : Ref sig .tc := ⟨.hbm, 188, rfl⟩
abbrev main_cst_12 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_13 : Ref sig .tc := ⟨.hbm, 193, rfl⟩
abbrev main_v128 : Ref sig .tc := ⟨.hbm, 194, rfl⟩
abbrev main_cst_14 : Ref sig .tc := ⟨.hbm, 195, rfl⟩
abbrev main_v129 : Ref sig .tc := ⟨.hbm, 196, rfl⟩
abbrev main_cst_15 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩

abbrev nD : Nat := 1
abbrev τ : Topo := Topo.v7x

variable {F : FTy → Type} [FloatOps F]
-- ==== Proof.Spec.lean ====
/-
  The mathematics of the problem over the extended reals, free of both programs: the band means of one image, the
  four convolutions along the bands with a zero on either side, the latent code, its distances to the codebook's
  rows, the nearest row, the reconstruction and the losses. The modules about the kernel and about the reference each
  show that their program computes these functions.
-/
module

public import Idealize.ShloMosaic.Lib.Pointwise

@[expose] public section

noncomputable section

namespace Cert.VQ

open Idealize.ShloMosaic

/-! ## Extended reals -/

/-- Multiplication by a nonnegative real distributes over a finite sum of extended reals, whatever its terms are. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hc) (EReal.coe_ne_top c) _ _

/-- A real added to the difference of `q` and itself is `q`, for every extended real `q`. -/
theorem coe_add_sub_self (r : ℝ) (q : EReal) : (r : EReal) + (q - r) = q := by
  induction q using EReal.rec with
  | bot => simp
  | top => simp
  | coe q => rw [← EReal.coe_sub, ← EReal.coe_add]; congr 1; ring

/-- A sum of reals is a real. -/
theorem exists_coe_sum {ι : Type*} (s : Finset ι) (f : ι → EReal) (h : ∀ i ∈ s, ∃ r : ℝ, f i = r) :
    ∃ r : ℝ, ∑ i ∈ s, f i = r := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

/-- A square is nonnegative. -/
theorem mul_self_nonneg' (a : EReal) : 0 ≤ a * a := by
  rcases le_total 0 a with h | h
  · exact mul_nonneg h h
  · have := mul_nonneg (EReal.neg_nonneg.2 h) (EReal.neg_nonneg.2 h)
    rwa [neg_mul_neg] at this

/-! ## The encoder -/

/-- The value one band to the left, zero before the first band. -/
def left (h : Fin 128 → EReal) (l : Fin 128) : EReal :=
  if l.val = 0 then 0 else h ⟨l.val - 1, by omega⟩

/-- The value one band to the right, zero after the last band. -/
def right (h : Fin 128 → EReal) (l : Fin 128) : EReal :=
  if hl : l.val + 1 < 128 then h ⟨l.val + 1, hl⟩ else 0

/-- One layer: a convolution of three taps along the bands from `C` channels to 64, its bias, and the rectifier. -/
def conv {C : ℕ} (W : Fin 64 → Fin C → Fin 3 → EReal) (b : Fin 64 → EReal) (h : Fin C → Fin 128 → EReal)
    (o : Fin 64) (l : Fin 128) : EReal :=
  max (∑ c, W o c 0 * left (h c) l + ∑ c, W o c 1 * h c l + ∑ c, W o c 2 * right (h c) l + b o) 0

/-- The weights and biases of the four layers, the codebook, and the decoder's weights and bias. -/
structure Params where
  W1 : Fin 64 → Fin 1 → Fin 3 → EReal
  b1 : Fin 64 → EReal
  W2 : Fin 64 → Fin 64 → Fin 3 → EReal
  b2 : Fin 64 → EReal
  W3 : Fin 64 → Fin 64 → Fin 3 → EReal
  b3 : Fin 64 → EReal
  W4 : Fin 64 → Fin 64 → Fin 3 → EReal
  b4 : Fin 64 → EReal
  code : Fin 8192 → Fin 64 → EReal
  Wd : Fin 128 → Fin 64 → EReal
  bd : Fin 128 → EReal

/-- The mean of every band over its 64 × 64 pixels. -/
def bandMean (x : Fin 128 → Fin 64 → Fin 64 → EReal) (l : Fin 128) : EReal :=
  (∑ i, ∑ j, x l i j) * ((1 / 4096 : ℝ) : EReal)

variable (P : Params)

/-- The four layers over an image's band means `p`. -/
def features (p : Fin 128 → EReal) : Fin 64 → Fin 128 → EReal :=
  conv P.W4 P.b4 (conv P.W3 P.b3 (conv P.W2 P.b2 (conv P.W1 P.b1 fun _ => p)))

/-- The latent code: the mean of every feature over the bands. -/
def latent (p : Fin 128 → EReal) (o : Fin 64) : EReal :=
  (∑ l, features P p o l) * ((1 / 128 : ℝ) : EReal)

/-! ## The codebook -/

/-- The squared distance of a code `z` to the codebook's row `k`, expanded. -/
def dist (z : Fin 64 → EReal) (k : Fin 8192) : EReal :=
  ∑ j, z j * z j - ((2 : ℝ) : EReal) * ∑ j, z j * P.code k j + ∑ j, P.code k j * P.code k j

/-- `k` is the first index at which `d` is least. -/
def IsFirstMin {n : ℕ} (d : Fin n → EReal) (k : Fin n) : Prop :=
  (∀ j, d k ≤ d j) ∧ ∀ j, j < k → d k < d j

/-- There is one such index at most. -/
theorem IsFirstMin.unique {n : ℕ} {d : Fin n → EReal} {k k' : Fin n} (h : IsFirstMin d k) (h' : IsFirstMin d k') :
    k = k' := by
  rcases lt_trichotomy k k' with hl | he | hl
  · exact absurd (h.1 k') (not_le.2 (h'.2 k hl))
  · exact he
  · exact absurd (h'.1 k) (not_le.2 (h.2 k' hl))

/-- There is such an index. -/
theorem exists_isFirstMin {n : ℕ} (d : Fin (n + 1) → EReal) : ∃ k, IsFirstMin d k := by
  classical
  obtain ⟨m, hm⟩ := Finite.exists_min d
  have hex : ∃ i : ℕ, ∃ hi : i < n + 1, ∀ j, d ⟨i, hi⟩ ≤ d j := ⟨m.val, m.isLt, hm⟩
  obtain ⟨hi, hle⟩ := Nat.find_spec hex
  refine ⟨⟨Nat.find hex, hi⟩, hle, fun j hj => ?_⟩
  have hnot := Nat.find_min hex (m := j.val) hj
  by_contra hcon
  exact hnot ⟨j.isLt, fun i => (not_lt.1 hcon).trans (hle i)⟩

/-- The first of the codebook's rows nearest to the code `z`. -/
def nearest (z : Fin 64 → EReal) : Fin 8192 := (exists_isFirstMin (dist P z)).choose

/-- What the nearest row is. -/
theorem nearest_spec (z : Fin 64 → EReal) : IsFirstMin (dist P z) (nearest P z) :=
  (exists_isFirstMin (dist P z)).choose_spec

/-! ## The results for one image of band means `p` -/

/-- The index of the codebook's row chosen for the image. -/
def index (p : Fin 128 → EReal) : Fin 8192 := nearest P (latent P p)

/-- The quantized code: the chosen row. -/
def quant (p : Fin 128 → EReal) (j : Fin 64) : EReal := P.code (index P p) j

/-- The reconstruction of the band means from the quantized code. -/
def recon (p : Fin 128 → EReal) (l : Fin 128) : EReal := ∑ j, quant P p j * P.Wd l j + P.bd l

/-- The image's part of the reconstruction loss's sum. -/
def reconErr (p : Fin 128 → EReal) : EReal := ∑ l, (recon P p l - p l) * (recon P p l - p l)

/-- The image's part of the quantization loss's sum. -/
def quantErr (p : Fin 128 → EReal) : EReal :=
  ∑ j, (quant P p j - latent P p j) * (quant P p j - latent P p j)

/-! ## The losses over a batch of band means -/

/-- The mean squared reconstruction error over the batch. -/
def reconLoss (p : Fin 64 → Fin 128 → EReal) : EReal := (∑ n, reconErr P (p n)) * ((1 / 8192 : ℝ) : EReal)

/-- 1.25 times the mean squared quantization error over the batch. -/
def quantLoss (p : Fin 64 → Fin 128 → EReal) : EReal := (∑ n, quantErr P (p n)) * ((5 / 16384 : ℝ) : EReal)

/-! ## Constants of the two programs as real numbers -/

/-- The word of 2. -/
theorem word_two : Ideal.ofBits .f32 0x40000000#32 = ((2 : ℝ) : EReal) := by
  simp [Ideal.ofBits, Ideal.ieee, -EReal.coe_mul]; norm_num

/-- The word of 1/4. -/
theorem word_quarter : Ideal.ofBits .f32 0x3E800000#32 = ((1 / 4 : ℝ) : EReal) := by
  simp [Ideal.ofBits, Ideal.ieee, -EReal.coe_mul]; norm_num

/-- The word of 128. -/
theorem word_128 : Ideal.ofBits .f32 0x43000000#32 = ((128 : ℝ) : EReal) := by
  simp [Ideal.ofBits, Ideal.ieee, -EReal.coe_mul]; norm_num

/-- The word of 4096. -/
theorem word_4096 : Ideal.ofBits .f32 0x45800000#32 = ((4096 : ℝ) : EReal) := by
  simp [Ideal.ofBits, Ideal.ieee, -EReal.coe_mul]; norm_num

/-- The word of 8192. -/
theorem word_8192 : Ideal.ofBits .f32 0x46000000#32 = ((8192 : ℝ) : EReal) := by
  simp [Ideal.ofBits, Ideal.ieee, -EReal.coe_mul]; norm_num

/-- The word of 1/128. -/
theorem word_inv_128 : Ideal.ofBits .f32 0x3C000000#32 = ((1 / 128 : ℝ) : EReal) := by
  simp [Ideal.ofBits, Ideal.ieee, -EReal.coe_mul]; norm_num

/-- The word of 1/4096. -/
theorem word_inv_4096 : Ideal.ofBits .f32 0x39800000#32 = ((1 / 4096 : ℝ) : EReal) := by
  simp [Ideal.ofBits, Ideal.ieee, -EReal.coe_mul]; norm_num

/-- The word of 1/8192. -/
theorem word_inv_8192 : Ideal.ofBits .f32 0x39000000#32 = ((1 / 8192 : ℝ) : EReal) := by
  simp [Ideal.ofBits, Ideal.ieee, -EReal.coe_mul]; norm_num

/-- The word of 5/16384. -/
theorem word_quantScale : Ideal.ofBits .f32 0x39A00000#32 = ((5 / 16384 : ℝ) : EReal) := by
  simp [Ideal.ofBits, Ideal.ieee, -EReal.coe_mul]; norm_num

/-- The word of the infinity. -/
theorem word_top : Ideal.ofBits .f32 0x7F800000#32 = (⊤ : EReal) := by
  simp [Ideal.ofBits, Ideal.ieee]

/-- Division by a positive real is multiplication by its inverse. -/
theorem div_coe (a : EReal) (c : ℝ) (hc : c ≠ 0) : Ideal.div a (c : EReal) = a * ((1 / c : ℝ) : EReal) := by
  rw [one_div]
  simp [Ideal.div, hc, EReal.coe_inv]

end Cert.VQ

end
-- ==== Proof.Encoder.lean ====
/-
  The encoder of one grid point of the kernel, as a function of the blocks it loads. The eight images of the point lie
  end to end along one axis of 8 · 128 lanes: lane `r · 128 + l` is band `l` of image `r`. A layer is one product of
  the [64, 192] weights with the features shifted right, unshifted and shifted left, laid under one another; the lanes
  that a shift brings over from a neighbouring image are multiplied by the zeros of a mask.
-/
module

public import proofs.«01_k».proof.Proof.Gen.KernelIdeal.Skeleton
public import proofs.«01_k».proof.Proof.Spec

@[expose] public section

set_option maxRecDepth 16384

noncomputable section

namespace Cert.VQ

open Cert.KernelIdeal Cert.KernelIdeal.Gen Idealize.ShloMosaic

/-! ## Lanes -/

/-- The lane of band `l` of the point's image `r`. -/
def lane (r : Fin 8) (l : Fin 128) : Fin 1024 := ⟨r.val * 128 + l.val, by omega⟩

/-- The number of a lane. -/
@[simp] theorem lane_val (r : Fin 8) (l : Fin 128) : (lane r l).val = r.val * 128 + l.val := rfl

/-- Every lane is a band of an image. -/
theorem eq_lane (k : Fin 1024) : k = lane ⟨k.val / 128, by omega⟩ ⟨k.val % 128, by omega⟩ :=
  Fin.ext (by simp only [lane_val]; omega)

/-- A sum over the lanes is the sum over the images of the sums over the bands. -/
theorem sum_lanes (g : Fin 1024 → EReal) : ∑ k, g k = ∑ r, ∑ l, g (lane r l) := by
  rw [← Fintype.sum_prod_type' fun r l => g (lane r l)]
  refine (Fintype.sum_equiv (finProdFinEquiv (m := 8) (n := 128)) _ _ fun p => ?_).symm
  exact congrArg g (Fin.ext (by simp only [lane_val, finProdFinEquiv_apply_val]; omega))

/-! ## The masks -/

/-- The bit of a proposition, read as a float. -/
theorem sitofp_bit (p : Prop) [Decidable p] (w : BitVec 1) (hw : w = BitVec.ofBool (decide p)) :
    FloatOps.sitofp (F := Ideal) FTy.f32 (BitVec.setWidth 32 w) = if p then 1 else 0 := by
  show (((BitVec.setWidth 32 w).toInt : ℝ) : EReal) = _
  rw [hw]
  by_cases h : p <;> simp [h]

/-- The selector: row `r` holds one at the lanes of image `r` and zero elsewhere. -/
theorem sel_apply (r : Fin 8) (k : Fin 1024) :
    k0_pay9 (F := Ideal) (ix2 r k) = if k.val / 128 = r.val then 1 else 0 := by
  pointwise [k0_pay9]
  refine sitofp_bit _ _ ?_
  revert r k
  decide +kernel

/-- The first mask holds zero at the first band of every image and one elsewhere. -/
theorem first_apply (k : Fin 1024) :
    k0_pay11 (F := Ideal) k0_pay10 (ix2 0 k) = if k.val % 128 ≠ 0 then 1 else 0 := by
  pointwise [k0_pay11, k0_pay10]
  refine sitofp_bit _ _ ?_
  revert k
  decide +kernel

/-- The last mask holds zero at the last band of every image and one elsewhere. -/
theorem last_apply (k : Fin 1024) :
    k0_pay12 (F := Ideal) k0_pay10 (ix2 0 k) = if k.val % 128 ≠ 127 then 1 else 0 := by
  pointwise [k0_pay12, k0_pay10]
  refine sitofp_bit _ _ ?_
  revert k
  decide +kernel

/-! ## One layer -/

/-- The features moved one lane to the right, times the mask `m`. -/
def shiftRight (m : Vec Ideal S1x1024 .f32) (h : FVec Ideal S64x1024 .f32) : FVec Ideal S64x1024 .f32 :=
  mulf (concatenate S64x1024 1 [⟨S64x1, broadcast S64x1 (Scalar.ofBits .f32 0x00000000#32)⟩,
      ⟨S64x1023, extractStridedSlice S64x1023 ![0, 0] h slices_S64x1024_o0_0_S64x1023⟩]
      concatenates_S64x1_S64x1023_S64x1024_d1) (broadcastTo S64x1024 m broadcasts_S1x1024_S64x1024)

/-- The features moved one lane to the left, times the mask `m`. -/
def shiftLeft (m : Vec Ideal S1x1024 .f32) (h : FVec Ideal S64x1024 .f32) : FVec Ideal S64x1024 .f32 :=
  mulf (concatenate S64x1024 1 [⟨S64x1023, extractStridedSlice S64x1023 ![0, 1] h slices_S64x1024_o0_1_S64x1023⟩,
      ⟨S64x1, broadcast S64x1 (Scalar.ofBits .f32 0x00000000#32)⟩]
      concatenates_S64x1023_S64x1_S64x1024_d1) (broadcastTo S64x1024 m broadcasts_S1x1024_S64x1024)

/-- The product of the layer's weights with the three shifts of the features. -/
def taps (mf ml : Vec Ideal S1x1024 .f32) (w : Vec Ideal S64x192 .f32) (h : FVec Ideal S64x1024 .f32) :
    FVec Ideal S64x1024 .f32 :=
  matmul dot_S64x192_S192x1024_S64x1024_1_0_0_1_n_n (φ₁ := .f32) (φ₂ := .f32) none (shapeCast S64x192 w shapeCasts_S64x192_S64x192)
    (concatenate S192x1024 0 [⟨S64x1024, shiftRight mf h⟩, ⟨S64x1024, h⟩, ⟨S64x1024, shiftLeft ml h⟩]
      concatenates_S64x1024_S64x1024_S64x1024_S192x1024_d0) (constant S64x1024 .f32 0x00000000#32)

/-- The bias added and the rectifier taken. -/
def act (v : FVec Ideal S64x1024 .f32) (b : Vec Ideal S64x1 .f32) : FVec Ideal S64x1024 .f32 :=
  maximumf (addf v (broadcastTo S64x1024 (shapeCast S64x1 b shapeCasts_S64x1_S64x1) broadcasts_S64x1_S64x1024))
    (broadcast S64x1024 (Scalar.ofBits .f32 0x00000000#32))

/-- The pooled features of the point's eight images. -/
def pooled (sel : Vec Ideal S8x1024 .f32) (h : FVec Ideal S64x1024 .f32) : FVec Ideal S8x64 .f32 :=
  mulf (matmul dot_S8x1024_S64x1024_S8x64_1_1_0_0_n_n (φ₁ := .f32) (φ₂ := .f32) none sel h (constant S8x64 .f32 0x00000000#32))
    (broadcast S8x64 (Scalar.ofBits .f32 0x3C000000#32))

/-- The body's second and third layers are those of this section, -/
theorem pay15_eq (v10 v11 : Vec Ideal S1x1024 .f32) (v39 : FVec Ideal S64x1024 .f32) (v40 : Vec Ideal S64x1 .f32)
    (v57 : Vec Ideal S64x192 .f32) (v60 : Vec Ideal S64x1 .f32) (v77 : Vec Ideal S64x192 .f32) :
    k0_pay15 v10 v11 v39 v40 v57 v60 v77 = taps v10 v11 v77 (act (taps v10 v11 v57 (act v39 v40)) v60) := rfl

/-- and so are its fourth layer and the pooling. -/
theorem pay17_eq (v9 : Vec Ideal S8x1024 .f32) (v10 v11 : Vec Ideal S1x1024 .f32) (v79 : FVec Ideal S64x1024 .f32)
    (v80 : Vec Ideal S64x1 .f32) (v97 : Vec Ideal S64x192 .f32) (v100 : Vec Ideal S64x1 .f32) :
    k0_pay17 v9 v10 v11 v79 (k0_pay16 v80) v97 v100 = pooled v9 (act (taps v10 v11 v97 (act v79 v80)) v100) := rfl

/-- The point's eight rows of means, eight times side by side. -/
def tiled (v : FVec Ideal S8x128 .f32) : FVec Ideal S8x1024 .f32 :=
  concatenate S8x1024 1 [⟨S8x128, v⟩, ⟨S8x128, v⟩, ⟨S8x128, v⟩, ⟨S8x128, v⟩, ⟨S8x128, v⟩, ⟨S8x128, v⟩,
    ⟨S8x128, v⟩, ⟨S8x128, v⟩] concatenates_S8x128_S8x128_S8x128_S8x128_S8x128_S8x128_S8x128_S8x128_S8x1024_d1

/-- The tiled means, each kept in its own row, and the rows added up. -/
def unrolled (v : FVec Ideal S8x128 .f32) (sel : Vec Ideal S8x1024 .f32) : FVec Ideal S1x1024 .f32 :=
  shapeCast S1x1024 (multiReduction (F := Ideal) (φ := .f32) .add [0] S1024
    (mulf (tiled v) sel) 0x00000000#32 reduces_S8x1024_S1024 (.inl rfl) rfl)
    shapeCasts_S1024_S1x1024

/-- The lanes moved one to the right, times the mask `m`. -/
def rowRight (m v : FVec Ideal S1x1024 .f32) : FVec Ideal S1x1024 .f32 :=
  mulf (concatenate S1x1024 1 [⟨S1x1, broadcast S1x1 (Scalar.ofBits .f32 0x00000000#32)⟩,
    ⟨S1x1023, extractStridedSlice S1x1023 ![0, 0] v slices_S1x1024_o0_0_S1x1023⟩]
    concatenates_S1x1_S1x1023_S1x1024_d1) m

/-- The lanes moved one to the left, times the mask `m`. -/
def rowLeft (m v : FVec Ideal S1x1024 .f32) : FVec Ideal S1x1024 .f32 :=
  mulf (concatenate S1x1024 1 [⟨S1x1023, extractStridedSlice S1x1023 ![0, 1] v slices_S1x1024_o0_1_S1x1023⟩,
    ⟨S1x1, broadcast S1x1 (Scalar.ofBits .f32 0x00000000#32)⟩]
    concatenates_S1x1023_S1x1_S1x1024_d1) m

/-- One weight of the first layer times a row of lanes. -/
def tap1 (w : FVec Ideal S64x1 .f32) (v : FVec Ideal S1x1024 .f32) : FVec Ideal S64x1024 .f32 :=
  mulf (broadcastTo S64x1024 w broadcasts_S64x1_S64x1024) (broadcastTo S64x1024 v broadcasts_S1x1024_S64x1024)

/-- The first layer's three weights times the three shifts of the row. -/
def taps1 (mf ml : Vec Ideal S1x1024 .f32) (w : Vec Ideal S64x3 .f32) (v : FVec Ideal S1x1024 .f32) :
    FVec Ideal S64x1024 .f32 :=
  let w' : FVec Ideal S64x3 .f32 := shapeCast S64x3 w shapeCasts_S64x3_S64x3
  addf (addf (tap1 (extractStridedSlice S64x1 ![0, 0] w' slices_S64x3_o0_0_S64x1) (rowRight mf v))
      (tap1 (extractStridedSlice S64x1 ![0, 1] w' slices_S64x3_o0_1_S64x1) v))
    (tap1 (extractStridedSlice S64x1 ![0, 2] w' slices_S64x3_o0_2_S64x1) (rowLeft ml v))

/-- The body's first layer is that of this section. -/
theorem pay14_eq (v3 : Vec Ideal S32768x128 .f32) (v9 : Vec Ideal S8x1024 .f32) (v10 v11 : Vec Ideal S1x1024 .f32)
    (v16 : Vec Ideal S64x3 .f32) :
    k0_pay14 v3 v9 v10 v11 v16 = taps1 v10 v11 v16 (unrolled (k0_pay13 v3) v9) := rfl

/-! ## The stages at an index -/

/-- The features `h` of the point hold, at the lanes of image `r`, the features `f r`. -/
def Rows (h : FVec Ideal S64x1024 .f32) (f : Fin 8 → Fin 64 → Fin 128 → EReal) : Prop :=
  ∀ o r l, h (ix2 o (lane r l)) = f r o l

/-- The lanes moved one to the right and masked, at an image's band. -/
theorem masked_right (g : Fin 1024 → EReal) (r : Fin 8) (l : Fin 128) :
    ((if h : (lane r l).val < 1 then 0 else g ⟨(lane r l).val - 1, by omega⟩)
      * if (lane r l).val % 128 ≠ 0 then 1 else 0) = left (fun l => g (lane r l)) l := by
  unfold left
  by_cases hl : l.val = 0
  · rw [if_pos hl, if_neg (by simp only [lane_val]; omega), mul_zero]
  · rw [if_neg hl, if_pos (by simp only [lane_val]; omega), mul_one, dif_neg (by simp only [lane_val]; omega)]
    exact congrArg g (Fin.ext (by simp only [lane_val]; omega))

/-- The lanes moved one to the left and masked, at an image's band. -/
theorem masked_left (g : Fin 1024 → EReal) (r : Fin 8) (l : Fin 128) :
    ((if h : (lane r l).val < 1023 then g ⟨1 + (lane r l).val, by omega⟩ else 0)
      * if (lane r l).val % 128 ≠ 127 then 1 else 0) = right (fun l => g (lane r l)) l := by
  unfold right
  by_cases hl : l.val + 1 < 128
  · rw [dif_pos hl, if_pos (by simp only [lane_val]; omega), mul_one, dif_pos (by simp only [lane_val]; omega)]
    exact congrArg g (Fin.ext (by simp only [lane_val]; omega))
  · rw [dif_neg hl, if_neg (by simp only [lane_val]; omega), mul_zero]

/-- The means: the sum over an image's 4096 rows of the block, times 1/4096. -/
theorem pay13_apply (v : Vec Ideal S32768x128 .f32) (r : Fin 8) (k : Fin 128) :
    k0_pay13 v (ix2 r k) = (∑ x : Fin 4096, v (ix2 ⟨r.val * 4096 + x.val, by omega⟩ k)) * ((1 / 4096 : ℝ) : EReal) := by
  pointwise [k0_pay13]
  rw [word_inv_4096]

/-- The tiled means repeat with the period of the bands. -/
theorem tiled_apply (v : FVec Ideal S8x128 .f32) (b : Fin 8) (k : Fin 1024) (l : Fin 128)
    (hk : k.val % 128 = l.val) : tiled v (ix2 b k) = v (ix2 b l) := by
  pointwise [tiled]
  have leaf (n : ℕ) (hn : n < 128) (h : n = l.val) : v (ix2 b ⟨n, hn⟩) = v (ix2 b l) :=
    congrArg v (congrArg (ix2 b) (Fin.ext h))
  repeat' split
  all_goals exact leaf _ _ (by omega)

/-- The unrolled row holds, at the lanes of image `r`, row `r` of the means. -/
theorem unrolled_apply (v : FVec Ideal S8x128 .f32) (r : Fin 8) (l : Fin 128) :
    unrolled v (k0_pay9 (F := Ideal)) (ix2 0 (lane r l)) = v (ix2 r l) := by
  pointwise [unrolled]
  simp only [sel_apply]
  rw [Finset.sum_eq_single r]
  · rw [if_pos (by simp only [lane_val]; omega), mul_one]
    exact tiled_apply v r _ l (by simp only [lane_val]; omega)
  · intro b _ hb
    rw [if_neg (fun h => hb (Fin.ext (by simp only [lane_val] at h; omega))), mul_zero]
  · simp

/-- The row moved right by one lane and masked holds the value of the band to the left. -/
theorem rowRight_apply (v : FVec Ideal S1x1024 .f32) (r : Fin 8) (l : Fin 128) :
    rowRight (k0_pay11 (F := Ideal) k0_pay10) v (ix2 0 (lane r l)) = left (fun l => v (ix2 0 (lane r l))) l := by
  pointwise [rowRight]
  rw [first_apply]
  exact masked_right (fun k => v (ix2 0 k)) r l

/-- The row moved left by one lane and masked holds the value of the band to the right. -/
theorem rowLeft_apply (v : FVec Ideal S1x1024 .f32) (r : Fin 8) (l : Fin 128) :
    rowLeft (k0_pay12 (F := Ideal) k0_pay10) v (ix2 0 (lane r l)) = right (fun l => v (ix2 0 (lane r l))) l := by
  pointwise [rowLeft]
  rw [last_apply]
  exact masked_left (fun k => v (ix2 0 k)) r l

/-- The features moved right by one lane and masked hold the values of the band to the left. -/
theorem shiftRight_apply (h : FVec Ideal S64x1024 .f32) (o : Fin 64) (r : Fin 8) (l : Fin 128) :
    shiftRight (k0_pay11 (F := Ideal) k0_pay10) h (ix2 o (lane r l)) = left (fun l => h (ix2 o (lane r l))) l := by
  pointwise [shiftRight]
  rw [first_apply]
  exact masked_right (fun k => h (ix2 o k)) r l

/-- The features moved left by one lane and masked hold the values of the band to the right. -/
theorem shiftLeft_apply (h : FVec Ideal S64x1024 .f32) (o : Fin 64) (r : Fin 8) (l : Fin 128) :
    shiftLeft (k0_pay12 (F := Ideal) k0_pay10) h (ix2 o (lane r l)) = right (fun l => h (ix2 o (lane r l))) l := by
  pointwise [shiftLeft]
  rw [last_apply]
  exact masked_left (fun k => h (ix2 o k)) r l

/-- A sum over the 192 rows of the stacked features is the sum of the sums over the three parts. -/
theorem sum_192 (g : Fin 192 → EReal) : ∑ x, g x = ∑ c : Fin 64, g ⟨c.val, by omega⟩
    + ∑ c : Fin 64, g ⟨64 + c.val, by omega⟩ + ∑ c : Fin 64, g ⟨128 + c.val, by omega⟩ := by
  rw [Fin.sum_univ_add (a := 128) (b := 64) g, Fin.sum_univ_add (a := 64) (b := 64)]
  rfl

/-- The three taps of a later layer. -/
theorem taps_apply (mf ml : Vec Ideal S1x1024 .f32) (w : Vec Ideal S64x192 .f32) (h : FVec Ideal S64x1024 .f32)
    (o : Fin 64) (k : Fin 1024) : taps mf ml w h (ix2 o k) =
      ∑ c : Fin 64, w (ix2 o ⟨c.val, by omega⟩) * shiftRight mf h (ix2 c k)
        + ∑ c : Fin 64, w (ix2 o ⟨64 + c.val, by omega⟩) * h (ix2 c k)
        + ∑ c : Fin 64, w (ix2 o ⟨128 + c.val, by omega⟩) * shiftLeft ml h (ix2 c k) := by
  pointwise [taps]
  rw [sum_192]
  rfl

/-- The three taps of the first layer. -/
theorem taps1_apply (mf ml : Vec Ideal S1x1024 .f32) (w : Vec Ideal S64x3 .f32) (v : FVec Ideal S1x1024 .f32)
    (o : Fin 64) (k : Fin 1024) : taps1 mf ml w v (ix2 o k) =
      w (ix2 o 0) * rowRight mf v (ix2 0 k) + w (ix2 o 1) * v (ix2 0 k) + w (ix2 o 2) * rowLeft ml v (ix2 0 k) := by
  pointwise [taps1, tap1]

/-- The bias and the rectifier. -/
theorem act_apply (v : FVec Ideal S64x1024 .f32) (b : Vec Ideal S64x1 .f32) (o : Fin 64) (k : Fin 1024) :
    act v b (ix2 o k) = max (v (ix2 o k) + b (ix2 o 0)) 0 := by
  pointwise [act]

/-- The mean of the features over an image's lanes. -/
theorem pooled_apply (h : FVec Ideal S64x1024 .f32) (r : Fin 8) (o : Fin 64) :
    pooled (k0_pay9 (F := Ideal)) h (ix2 r o) = (∑ l, h (ix2 o (lane r l))) * ((1 / 128 : ℝ) : EReal) := by
  pointwise [pooled]
  rw [word_inv_128, sum_lanes]
  simp only [sel_apply]
  rw [Finset.sum_eq_single r]
  · refine congrArg (· * _) (Finset.sum_congr rfl fun l _ => ?_)
    rw [if_pos (by simp only [lane_val]; omega), one_mul]
  · intro b _ hb
    refine Finset.sum_eq_zero fun l _ => ?_
    rw [if_neg (fun h => hb (Fin.ext (by simp only [lane_val] at h; omega))), zero_mul]
  · simp

/-! ## The stages on rows -/

/-- The activations of a layer hold, image by image, the layer of `Spec`. -/
theorem rows_layer {h : FVec Ideal S64x1024 .f32} {f : Fin 8 → Fin 64 → Fin 128 → EReal} (hf : Rows h f)
    {w : Vec Ideal S64x192 .f32} {b : Vec Ideal S64x1 .f32} {W : Fin 64 → Fin 64 → Fin 3 → EReal} {β : Fin 64 → EReal}
    (hw : ∀ (o c : Fin 64) (k : Fin 3), w (ix2 o ⟨k.val * 64 + c.val, by omega⟩) = W o c k)
    (hb : ∀ o, b (ix2 o 0) = β o) :
    Rows (act (taps (k0_pay11 (F := Ideal) k0_pay10) (k0_pay12 (F := Ideal) k0_pay10) w h) b)
      fun r => conv W β (f r) := by
  intro o r l
  have h0 : ∀ c : Fin 64, w (ix2 o ⟨c.val, by omega⟩) = W o c 0 := fun c => by
    rw [← hw]; exact congrArg (fun i => w (ix2 o i)) (Fin.ext (by simp))
  have h1 : ∀ c : Fin 64, w (ix2 o ⟨64 + c.val, by omega⟩) = W o c 1 := fun c => by
    rw [← hw]; exact congrArg (fun i => w (ix2 o i)) (Fin.ext (by simp))
  have h2 : ∀ c : Fin 64, w (ix2 o ⟨128 + c.val, by omega⟩) = W o c 2 := fun c => by
    rw [← hw]; exact congrArg (fun i => w (ix2 o i)) (Fin.ext (by simp))
  rw [act_apply, taps_apply, hb]
  simp only [shiftRight_apply, shiftLeft_apply, h0, h1, h2, hf _ r _]
  rfl

/-- The activations of the first layer, whose features have one channel. -/
theorem rows_layer1 {v : FVec Ideal S1x1024 .f32} {f : Fin 8 → Fin 128 → EReal}
    (hf : ∀ r l, v (ix2 0 (lane r l)) = f r l)
    {w : Vec Ideal S64x3 .f32} {b : Vec Ideal S64x1 .f32} {W : Fin 64 → Fin 1 → Fin 3 → EReal} {β : Fin 64 → EReal}
    (hw : ∀ (o : Fin 64) (k : Fin 3), w (ix2 o k) = W o 0 k) (hb : ∀ o, b (ix2 o 0) = β o) :
    Rows (act (taps1 (k0_pay11 (F := Ideal) k0_pay10) (k0_pay12 (F := Ideal) k0_pay10) w v) b)
      fun r => conv W β fun _ => f r := by
  intro o r l
  rw [act_apply, taps1_apply, hb, rowRight_apply, rowLeft_apply, hw, hw, hw]
  simp only [hf]
  simp [conv]

/-- The pooled features of rows. -/
theorem rows_pooled {h : FVec Ideal S64x1024 .f32} {f : Fin 8 → Fin 64 → Fin 128 → EReal} (hf : Rows h f)
    (r : Fin 8) (o : Fin 64) :
    pooled (k0_pay9 (F := Ideal)) h (ix2 r o) = (∑ l, f r o l) * ((1 / 128 : ℝ) : EReal) := by
  rw [pooled_apply]
  simp only [hf _ r _]

end Cert.VQ

end
-- ==== Proof.Quantize.lean ====
/-
  The quantizer and the decoder of one grid point of the kernel: the distances of the point's eight latent codes to the
  codebook's rows, the first nearest row, that row, and the reconstruction from it.
-/
module

public import proofs.«01_k».proof.Proof.Encoder

@[expose] public section

set_option maxRecDepth 16384

noncomputable section

namespace Cert.VQ

open Cert.KernelIdeal Cert.KernelIdeal.Gen Idealize.ShloMosaic

/-! ## The first least index, as a word -/

/-- The lesser of two words is the lesser of their numbers. -/
theorem toInt_min (x y : BitVec 32) : (IntOp.minsi x y).toInt = min x.toInt y.toInt := by
  unfold IntOp.minsi
  by_cases h : x.slt y
  · rw [if_pos h]
    exact (min_eq_left (BitVec.slt_iff_toInt_lt.1 h).le).symm
  · rw [if_neg h]
    exact (min_eq_right (not_lt.1 fun hl => h (BitVec.slt_iff_toInt_lt.2 hl))).symm

/-- A small number as a word is that number. -/
theorem toInt_ofNat_small {n : ℕ} (hn : n ≤ 8192) : (BitVec.ofNat 32 n).toInt = n := by
  have hm : (BitVec.ofNat 32 n).toNat = n := by rw [BitVec.toNat_ofNat]; omega
  rw [BitVec.toInt_eq_toNat_of_lt (by rw [hm]; omega), hm]

/-- The least of the values, by a fold from `⊤`. -/
theorem fold_min_eq {d : Fin 8192 → EReal} {k : Fin 8192} (h : IsFirstMin d k) :
    Finset.fold min ⊤ d Finset.univ = d k :=
  le_antisymm (Finset.fold_min_le _ |>.2 (.inr ⟨k, Finset.mem_univ _, le_rfl⟩))
    (Finset.le_fold_min _ |>.2 ⟨le_top, fun x _ => h.1 x⟩)

/-- The least of the indices at which the value is the least one, by a fold of words, is the first such index. -/
theorem fold_minsi_eq {d : Fin 8192 → EReal} {k : Fin 8192} (h : IsFirstMin d k) :
    Finset.fold IntOp.minsi (2147483647#32) (fun x => if d x = d k then BitVec.ofNat 32 x.val else 8192#32)
      Finset.univ = BitVec.ofNat 32 k.val := by
  apply BitVec.eq_of_toInt_eq
  rw [toInt_ofNat_small (by omega)]
  apply le_antisymm
  · have := (Finset.fold_op_rel_iff_or (op := IntOp.minsi) (r := fun x y : BitVec 32 => y.toInt ≤ x.toInt)
      (fun {x y z} => by rw [toInt_min]; exact min_le_iff) (b := 2147483647#32) (s := Finset.univ)
      (f := fun x : Fin 8192 => if d x = d k then BitVec.ofNat 32 x.val else 8192#32)
      (c := BitVec.ofNat 32 k.val)).2 (.inr ⟨k, Finset.mem_univ _, by rw [if_pos rfl]⟩)
    rwa [toInt_ofNat_small (by omega)] at this
  · have := (Finset.fold_op_rel_iff_and (op := IntOp.minsi) (r := fun x y : BitVec 32 => x.toInt ≤ y.toInt)
      (fun {x y z} => by rw [toInt_min]; exact le_min_iff) (b := 2147483647#32) (s := Finset.univ)
      (f := fun x : Fin 8192 => if d x = d k then BitVec.ofNat 32 x.val else 8192#32)
      (c := BitVec.ofNat 32 k.val)).2 ⟨by rw [toInt_ofNat_small (by omega)]; simp; omega, fun x _ => ?_⟩
    · rwa [toInt_ofNat_small (by omega)] at this
    · rw [toInt_ofNat_small (by omega)]
      by_cases hx : d x = d k
      · rw [if_pos hx, toInt_ofNat_small (by omega)]
        have : ¬ x < k := fun hl => absurd (h.2 x hl) (by rw [hx]; exact lt_irrefl _)
        have := not_lt.1 this
        exact_mod_cast this
      · rw [if_neg hx, toInt_ofNat_small le_rfl]
        have := k.isLt
        omega

/-- The bit that tells whether an index is the chosen one. -/
theorem cmpi_index (x k : Fin 8192) :
    IntOp.cmpi .eq (BitVec.ofNat 32 x.val) (BitVec.ofNat 32 k.val) = BitVec.ofBool (decide (x = k)) := by
  refine congrArg BitVec.ofBool ?_
  have hx := x.isLt
  have hk := k.isLt
  rw [Bool.eq_iff_iff]
  simp only [beq_iff_eq, decide_eq_true_eq]
  refine ⟨fun h => Fin.ext ?_, fun h => h ▸ rfl⟩
  have := congrArg BitVec.toNat h
  simpa [Nat.mod_eq_of_lt (show x.val < 4294967296 by omega), Nat.mod_eq_of_lt (show k.val < 4294967296 by omega)]
    using this

/-! ## The distances -/

/-- The expanded squared distances of the codes `z` to the columns of `ct`, whose squared norms are `c2`. -/
def dists (z : FVec Ideal S8x64 .f32) (ct : Vec Ideal S64x8192 .f32) (c2 : Vec Ideal S1x8192 .f32) :
    FVec Ideal S8x8192 .f32 :=
  addf (subf (broadcastTo S8x8192 (shapeCast S8x1 (multiReduction (F := Ideal) (φ := .f32) .add [1] S8 (mulf z z)
        0x00000000#32 reduces_S8x64_S8 (.inl rfl) rfl) shapeCasts_S8_S8x1) broadcasts_S8x1_S8x8192)
      (mulf (broadcast S8x8192 (Scalar.ofBits .f32 0x40000000#32))
        (matmul dot_S8x64_S64x8192_S8x8192_1_0_0_1_n_n (φ₁ := .f32) (φ₂ := .f32) none z
          (shapeCast S64x8192 ct shapeCasts_S64x8192_S64x8192) (constant S8x8192 .f32 0x00000000#32))))
    (broadcastTo S8x8192 c2 broadcasts_S1x8192_S8x8192)

/-- The least distance of every row. -/
def rowMin (d : FVec Ideal S8x8192 .f32) : FVec Ideal S8x1 .f32 :=
  shapeCast S8x1 (multiReduction (F := Ideal) (φ := .f32) .minimumf [1] S8 d 0x7F800000#32 reduces_S8x8192_S8
    (.inl rfl) rfl) shapeCasts_S8_S8x1

/-- The codes that the body computes. -/
theorem pay18_eq (v9 : Vec Ideal S8x1024 .f32) (v10 v11 : Vec Ideal S1x1024 .f32) (v79 v82 : FVec Ideal S64x1024 .f32)
    (v97 : Vec Ideal S64x192 .f32) (v100 : Vec Ideal S64x1 .f32) (v112 : Vec Ideal S64x8192 .f32)
    (v119 : Vec Ideal S1x8192 .f32) : k0_pay18 v9 v10 v11 v79 v82 v97 v100 v112 v119
      = dists (k0_pay17 v9 v10 v11 v79 v82 v97 v100) v112 v119 := rfl

/-- The distances that the body computes. -/
theorem pay19_eq (v9 : Vec Ideal S8x1024 .f32) (v10 v11 : Vec Ideal S1x1024 .f32) (v79 v82 : FVec Ideal S64x1024 .f32)
    (v97 : Vec Ideal S64x192 .f32) (v100 : Vec Ideal S64x1 .f32) (v112 : Vec Ideal S64x8192 .f32)
    (v119 : Vec Ideal S1x8192 .f32) : k0_pay19 v9 v10 v11 v79 v82 v97 v100 v112 v119
      = rowMin (k0_pay18 v9 v10 v11 v79 v82 v97 v100 v112 v119) := rfl

variable {P : Params} {z : FVec Ideal S8x64 .f32} {ζ : Fin 8 → Fin 64 → EReal}

/-- The squared norms of the codebook's rows. -/
theorem pay8_apply {ct : Vec Ideal S64x8192 .f32} (hct : ∀ j k, ct (ix2 j k) = P.code k j) (k : Fin 8192) :
    k0_pay8 ct (ix2 0 k) = ∑ j, P.code k j * P.code k j := by
  pointwise [k0_pay8]
  simp only [hct]

/-- The distances entry by entry. -/
theorem dists_apply (hz : ∀ r o, z (ix2 r o) = ζ r o) {ct : Vec Ideal S64x8192 .f32} {c2 : Vec Ideal S1x8192 .f32}
    (hct : ∀ j k, ct (ix2 j k) = P.code k j) (hc2 : ∀ k, c2 (ix2 0 k) = ∑ j, P.code k j * P.code k j)
    (r : Fin 8) (k : Fin 8192) : dists z ct c2 (ix2 r k) = dist P (ζ r) k := by
  pointwise [dists]
  simp only [hct, hz, hc2, word_two]
  rfl

/-! ## The chosen row -/

section Chosen

variable {d : FVec Ideal S8x8192 .f32} (hd : ∀ r k, d (ix2 r k) = dist P (ζ r) k)

include hd

/-- The index of the first nearest row. -/
theorem pay20_apply (r : Fin 8) : k0_pay20 d (rowMin d) (ix2 r 0) = BitVec.ofNat 32 (nearest P (ζ r)).val := by
  pointwise [k0_pay20, rowMin]
  rw [word_top]
  simp only [hd]
  rw [fold_min_eq (nearest_spec P (ζ r))]
  exact fold_minsi_eq (nearest_spec P (ζ r))

/-- The quantized code is the first nearest row. -/
theorem pay21_apply {cb : Vec Ideal S8192x64 .f32} (hcb : ∀ k j, cb (ix2 k j) = P.code k j) (r : Fin 8) (j : Fin 64) :
    k0_pay21 d (rowMin d) cb (ix2 r j) = P.code (nearest P (ζ r)) j := by
  have hp := pay20_apply hd r
  pointwise [k0_pay21]
  simp only [hp, hcb, sitofp_bit _ _ (cmpi_index _ _)]
  rw [Finset.sum_eq_single (nearest P (ζ r))]
  · rw [if_pos rfl, one_mul]
  · intro b _ hb
    rw [if_neg hb, zero_mul]
  · simp

/-- The reconstruction. -/
theorem pay22_apply {cb : Vec Ideal S8192x64 .f32} (hcb : ∀ k j, cb (ix2 k j) = P.code k j)
    {wd : Vec Ideal S64x128 .f32} (hwd : ∀ j l, wd (ix2 j l) = P.Wd l j)
    {bd : Vec Ideal S1x128 .f32} (hbd : ∀ l, bd (ix2 0 l) = P.bd l) (r : Fin 8) (l : Fin 128) :
    k0_pay22 d (rowMin d) cb wd bd (ix2 r l) = ∑ j, P.code (nearest P (ζ r)) j * P.Wd l j + P.bd l := by
  have hp := fun j => pay21_apply hd hcb r j
  pointwise [k0_pay22]
  simp only [hp, hwd, hbd]

/-- The point's part of the reconstruction loss's sum. -/
theorem pay23_apply {cb : Vec Ideal S8192x64 .f32} (hcb : ∀ k j, cb (ix2 k j) = P.code k j)
    {wd : Vec Ideal S64x128 .f32} (hwd : ∀ j l, wd (ix2 j l) = P.Wd l j)
    {bd : Vec Ideal S1x128 .f32} (hbd : ∀ l, bd (ix2 0 l) = P.bd l)
    {v : FVec Ideal S8x128 .f32} {p : Fin 8 → Fin 128 → EReal} (hv : ∀ r l, v (ix2 r l) = p r l) :
    k0_pay23 v d (rowMin d) cb wd bd (ix2 0 0) = ∑ r,
      ∑ l, (∑ j, P.code (nearest P (ζ r)) j * P.Wd l j + P.bd l - p r l)
        * (∑ j, P.code (nearest P (ζ r)) j * P.Wd l j + P.bd l - p r l) := by
  have hp := fun r l => pay22_apply hd hcb hwd hbd r l
  pointwise [k0_pay23]
  simp only [hp, hv]

/-- The point's part of the quantization loss's sum. -/
theorem pay24_apply {cb : Vec Ideal S8192x64 .f32} (hcb : ∀ k j, cb (ix2 k j) = P.code k j)
    (hz : ∀ r o, z (ix2 r o) = ζ r o) :
    k0_pay24 z d (rowMin d) cb (ix2 0 0) = ∑ r,
      ∑ j, (P.code (nearest P (ζ r)) j - ζ r j) * (P.code (nearest P (ζ r)) j - ζ r j) := by
  have hp := fun r j => pay21_apply hd hcb r j
  pointwise [k0_pay24]
  simp only [hp, hz]

end Chosen

end Cert.VQ

end
-- ==== Proof.Points.lean ====
/-
  What one grid point of the kernel leaves in its results and in the scratch it carries, in terms of the blocks it loads
  and of the scratch as the point before left it.
-/
module

public import proofs.«01_k».proof.Proof.Quantize
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.VQ

open Cert.KernelIdeal Cert.KernelIdeal.Gen Idealize.ShloMosaic Idealize.ShloMosaic.TcCoe

variable (m : (ℓ : Loc nD τ sig) → Buf (Elt Ideal) ℓ) (c : Dev nD) (t : Fin cfg0.N)

/-- What a point leaves: the blocks of the six results, then the carried scratch (the codebook's squared norms, the two
    running sums, the selector and the two masks). -/
abbrev State := Vec Ideal S8x128 .f32 × Vec Ideal S8x64 .f32 × Vec Ideal S8x1 .i32 × Vec Ideal S1x1 .f32
  × Vec Ideal S1x1 .f32 × Vec Ideal S1x1 .f32 × Vec Ideal S1x8192 .f32 × Vec Ideal S1x1 .f32 × Vec Ideal S1x1 .f32
  × Vec Ideal S8x1024 .f32 × Vec Ideal S1x1024 .f32 × Vec Ideal S1x1024 .f32

namespace State

variable (s : State)

/-- The block of reconstructions. -/
abbrev recon := s.1
/-- The block of quantized codes. -/
abbrev quant := s.2.1
/-- The block of indices. -/
abbrev index := s.2.2.1
/-- The loss. -/
abbrev loss := s.2.2.2.1
/-- The reconstruction loss. -/
abbrev reconLoss := s.2.2.2.2.1
/-- The quantization loss. -/
abbrev quantLoss := s.2.2.2.2.2.1
/-- The squared norms of the codebook's rows. -/
abbrev norms := s.2.2.2.2.2.2.1
/-- The running sum of the reconstruction error. -/
abbrev reconSum := s.2.2.2.2.2.2.2.1
/-- The running sum of the quantization error. -/
abbrev quantSum := s.2.2.2.2.2.2.2.2.1
/-- The selector of an image's lanes. -/
abbrev sel := s.2.2.2.2.2.2.2.2.2.1
/-- The mask of the first band. -/
abbrev first := s.2.2.2.2.2.2.2.2.2.2.1
/-- The mask of the last band. -/
abbrev last := s.2.2.2.2.2.2.2.2.2.2.2

end State

/-- The selector and the two masks that the first point computes. -/
abbrev selector : Vec Ideal S8x1024 .f32 := k0_pay9 (F := Ideal)
/-- The mask of the first band, as the first point computes it. -/
abbrev maskFirst : Vec Ideal S1x1024 .f32 := k0_pay11 (F := Ideal) k0_pay10
/-- The mask of the last band, as the first point computes it. -/
abbrev maskLast : Vec Ideal S1x1024 .f32 := k0_pay12 (F := Ideal) k0_pay10

/-- The pooled features of point `t` under the selector and masks given. -/
def pointCode (sel : Vec Ideal S8x1024 .f32) (mf ml : Vec Ideal S1x1024 .f32) : FVec Ideal S8x64 .f32 :=
  pooled sel (act (taps mf ml (iblk m c 7 t) (act (taps mf ml (iblk m c 5 t) (act (taps mf ml (iblk m c 3 t)
    (act (taps1 mf ml (iblk m c 1 t) (unrolled (k0_pay13 (iblk m c 0 t)) sel)) (iblk m c 2 t))) (iblk m c 4 t)))
    (iblk m c 6 t))) (iblk m c 8 t))

/-- The distances of point `t` under the scratch given. -/
def pointDists (norms : Vec Ideal S1x8192 .f32) (sel : Vec Ideal S8x1024 .f32) (mf ml : Vec Ideal S1x1024 .f32) :
    FVec Ideal S8x8192 .f32 :=
  dists (pointCode m c t sel mf ml) (iblk m c 10 t) norms

/-- The point's part of the reconstruction error's sum, from its distances. -/
def pointReconErr (d : FVec Ideal S8x8192 .f32) : FVec Ideal S1x1 .f32 :=
  k0_pay23 (k0_pay13 (iblk m c 0 t)) d (rowMin d) (iblk m c 9 t) (iblk m c 11 t) (iblk m c 12 t)

/-- The point's part of the quantization error's sum, from its codes and distances. -/
def pointQuantErr (z : FVec Ideal S8x64 .f32) (d : FVec Ideal S8x8192 .f32) : FVec Ideal S1x1 .f32 :=
  k0_pay24 z d (rowMin d) (iblk m c 9 t)

/-- The first point. -/
theorem step_first (acc : State) (h0 : t.val % 8 = 0) (h2 : ¬1 ≤ t.val) (h3 : ¬t.val % 8 = 7) :
    let s : State := Value.stAt0 m c t.val t.isLt acc
    let d := pointDists m c t (k0_pay8 (iblk m c 10 t)) selector maskFirst maskLast
    s.recon = k0_pay22 d (rowMin d) (iblk m c 9 t) (iblk m c 11 t) (iblk m c 12 t)
      ∧ s.quant = k0_pay21 d (rowMin d) (iblk m c 9 t)
      ∧ s.index = k0_pay20 d (rowMin d)
      ∧ s.norms = k0_pay8 (iblk m c 10 t)
      ∧ s.reconSum = k0_pay1 (pointReconErr m c t d)
      ∧ s.quantSum = k0_pay2 (pointQuantErr m c t (pointCode m c t selector maskFirst maskLast) d)
      ∧ s.sel = selector
      ∧ s.first = maskFirst
      ∧ s.last = maskLast := by
  rw [Value.stAt0_A m c t acc h0 h0 h2 h3]
  frame_out
  simp only [pointDists, pointCode, pointReconErr, pointQuantErr,
    pay19_eq, pay18_eq, pay17_eq, pay15_eq, pay14_eq,
    State.recon, State.quant, State.index, State.loss, State.reconLoss, State.quantLoss, State.norms, State.reconSum,
    State.quantSum, State.sel, State.first, State.last, and_self]

/-- A point between the first and the last. -/
theorem step_middle (acc : State) (h0 : ¬t.val % 8 = 0) (h2 : 1 ≤ t.val) (h3 : ¬t.val % 8 = 7) :
    let s : State := Value.stAt0 m c t.val t.isLt acc
    let d := pointDists m c t acc.norms acc.sel acc.first acc.last
    s.recon = k0_pay22 d (rowMin d) (iblk m c 9 t) (iblk m c 11 t) (iblk m c 12 t)
      ∧ s.quant = k0_pay21 d (rowMin d) (iblk m c 9 t)
      ∧ s.index = k0_pay20 d (rowMin d)
      ∧ s.norms = acc.norms
      ∧ s.reconSum = k0_pay3 (pointReconErr m c t d) acc.reconSum
      ∧ s.quantSum = k0_pay4 (pointQuantErr m c t (pointCode m c t acc.sel acc.first acc.last) d) acc.quantSum
      ∧ s.sel = acc.sel
      ∧ s.first = acc.first
      ∧ s.last = acc.last := by
  rw [Value.stAt0_B m c t acc h0 h0 h2 h3]
  frame_out
  simp only [read_unread_whole, pointDists, pointCode, pointReconErr, pointQuantErr,
    pay19_eq, pay18_eq, pay17_eq, pay15_eq, pay14_eq,
    State.recon, State.quant, State.index, State.loss, State.reconLoss, State.quantLoss, State.norms, State.reconSum,
    State.quantSum, State.sel, State.first, State.last, sout0_B_0, sout0_B_3, sout0_B_4, sout0_B_5, and_self]

/-- The last point. -/
theorem step_last (acc : State) (h0 : ¬t.val % 8 = 0) (h2 : 1 ≤ t.val) (h3 : t.val % 8 = 7) :
    let s : State := Value.stAt0 m c t.val t.isLt acc
    let d := pointDists m c t acc.norms acc.sel acc.first acc.last
    s.recon = k0_pay22 d (rowMin d) (iblk m c 9 t) (iblk m c 11 t) (iblk m c 12 t)
      ∧ s.quant = k0_pay21 d (rowMin d) (iblk m c 9 t)
      ∧ s.index = k0_pay20 d (rowMin d)
      ∧ s.loss = k0_pay7 s.reconSum s.quantSum
      ∧ s.reconLoss = k0_pay5 s.reconSum
      ∧ s.quantLoss = k0_pay6 s.quantSum
      ∧ s.norms = acc.norms
      ∧ s.reconSum = k0_pay3 (pointReconErr m c t d) acc.reconSum
      ∧ s.quantSum = k0_pay4 (pointQuantErr m c t (pointCode m c t acc.sel acc.first acc.last) d) acc.quantSum
      ∧ s.sel = acc.sel
      ∧ s.first = acc.first
      ∧ s.last = acc.last := by
  rw [Value.stAt0_C m c t acc h0 h0 h2 h3]
  frame_out
  simp only [read_unread_whole, pointDists, pointCode, pointReconErr, pointQuantErr,
    pay19_eq, pay18_eq, pay17_eq, pay15_eq, pay14_eq,
    State.recon, State.quant, State.index, State.loss, State.reconLoss, State.quantLoss, State.norms, State.reconSum,
    State.quantSum, State.sel, State.first, State.last, sout0_C_0, sout0_C_3, sout0_C_4, sout0_C_5, and_self]

end Cert.VQ

end
-- ==== Proof.Blocks.lean ====
/-
  The blocks that the grid points of the kernel load, read at the arguments.
-/
module

public import proofs.«01_k».proof.Proof.Points

@[expose] public section

set_option maxRecDepth 16384

noncomputable section

namespace Cert.VQ

open Cert.KernelIdeal Cert.KernelIdeal.Gen Idealize.ShloMosaic Idealize.ShloMosaic.TcCoe

variable (m : (ℓ : Loc nD τ sig) → Buf (Elt Ideal) ℓ) (c : Dev nD)

/-- The weights, biases and codebook that the arguments hold. -/
def argParams : Params where
  W1 o i k := m ((c : Thread nD τ).loc main_arg1) (ix3 o i k)
  b1 o := m ((c : Thread nD τ).loc main_arg2) (ix1 o)
  W2 o i k := m ((c : Thread nD τ).loc main_arg3) (ix3 o i k)
  b2 o := m ((c : Thread nD τ).loc main_arg4) (ix1 o)
  W3 o i k := m ((c : Thread nD τ).loc main_arg5) (ix3 o i k)
  b3 o := m ((c : Thread nD τ).loc main_arg6) (ix1 o)
  W4 o i k := m ((c : Thread nD τ).loc main_arg7) (ix3 o i k)
  b4 o := m ((c : Thread nD τ).loc main_arg8) (ix1 o)
  code k j := m ((c : Thread nD τ).loc main_arg9) (ix2 k j)
  Wd l j := m ((c : Thread nD τ).loc main_arg10) (ix2 l j)
  bd l := m ((c : Thread nD τ).loc main_arg11) (ix1 l)

/-- The band means of image `n`. -/
def argMeans (n : Fin 64) : Fin 128 → EReal :=
  bandMean fun l i j => m ((c : Thread nD τ).loc main_arg0) (ix4 n l i j)

/-- The image that lies in row `r` of the blocks of point `t`. -/
def image (t : Fin cfg0.N) (r : Fin 8) : Fin 64 :=
  ⟨t.val * 8 + r.val, by have : t.val < 8 := lt_of_lt_of_eq t.isLt N_0; omega⟩

variable (t : Fin cfg0.N)

/-- Point `t` loads the `t`-th block of the images, and every other operand whole. -/
theorem block_index : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) := by
  decide +kernel

/-- The images' block, whose rows are the pixels of eight images. -/
theorem blk0 (r : Fin 8) (i j : Fin 64) (l : Fin 128) :
    iblk m c 0 t (ix2 ⟨r.val * 4096 + (i.val * 64 + j.val), by omega⟩ l)
      = m ((c : Thread nD τ).loc main_arg0) (ix4 (image t r) l i j) := by
  blk_point [iblk, V, block_index t, image]

/-- The taps of the first convolution. -/
theorem blk1 (o : Fin 64) (k : Fin 3) : iblk m c 1 t (ix2 o k) = (argParams m c).W1 o 0 k := by
  show _ = m ((c : Thread nD τ).loc main_arg1) (ix3 o 0 k)
  blk_point [iblk, V, block_index t]

/-- The bias of the first convolution. -/
theorem blk2 (o : Fin 64) : iblk m c 2 t (ix2 o 0) = (argParams m c).b1 o := by
  show _ = m ((c : Thread nD τ).loc main_arg2) (ix1 o)
  blk_point [iblk, V, block_index t]

/-- The taps of the second convolution, the taps outermost in a row. -/
theorem blk3 (o i : Fin 64) (k : Fin 3) :
    iblk m c 3 t (ix2 o ⟨k.val * 64 + i.val, by omega⟩) = (argParams m c).W2 o i k := by
  show _ = m ((c : Thread nD τ).loc main_arg3) (ix3 o i k)
  blk_point [iblk, V, block_index t]

/-- The bias of the second convolution. -/
theorem blk4 (o : Fin 64) : iblk m c 4 t (ix2 o 0) = (argParams m c).b2 o := by
  show _ = m ((c : Thread nD τ).loc main_arg4) (ix1 o)
  blk_point [iblk, V, block_index t]

/-- The taps of the third convolution, the taps outermost in a row. -/
theorem blk5 (o i : Fin 64) (k : Fin 3) :
    iblk m c 5 t (ix2 o ⟨k.val * 64 + i.val, by omega⟩) = (argParams m c).W3 o i k := by
  show _ = m ((c : Thread nD τ).loc main_arg5) (ix3 o i k)
  blk_point [iblk, V, block_index t]

/-- The bias of the third convolution. -/
theorem blk6 (o : Fin 64) : iblk m c 6 t (ix2 o 0) = (argParams m c).b3 o := by
  show _ = m ((c : Thread nD τ).loc main_arg6) (ix1 o)
  blk_point [iblk, V, block_index t]

/-- The taps of the fourth convolution, the taps outermost in a row. -/
theorem blk7 (o i : Fin 64) (k : Fin 3) :
    iblk m c 7 t (ix2 o ⟨k.val * 64 + i.val, by omega⟩) = (argParams m c).W4 o i k := by
  show _ = m ((c : Thread nD τ).loc main_arg7) (ix3 o i k)
  blk_point [iblk, V, block_index t]

/-- The bias of the fourth convolution. -/
theorem blk8 (o : Fin 64) : iblk m c 8 t (ix2 o 0) = (argParams m c).b4 o := by
  show _ = m ((c : Thread nD τ).loc main_arg8) (ix1 o)
  blk_point [iblk, V, block_index t]

/-- The codebook. -/
theorem blk9 (k : Fin 8192) (j : Fin 64) : iblk m c 9 t (ix2 k j) = (argParams m c).code k j := by
  show _ = m ((c : Thread nD τ).loc main_arg9) (ix2 k j)
  blk_point [iblk, V, block_index t]

/-- The transposed codebook. -/
theorem blk10 (j : Fin 64) (k : Fin 8192) : iblk m c 10 t (ix2 j k) = (argParams m c).code k j := by
  show _ = m ((c : Thread nD τ).loc main_arg9) (ix2 k j)
  blk_point [iblk, V, block_index t]

/-- The transposed weights of the decoder. -/
theorem blk11 (j : Fin 64) (l : Fin 128) : iblk m c 11 t (ix2 j l) = (argParams m c).Wd l j := by
  show _ = m ((c : Thread nD τ).loc main_arg10) (ix2 l j)
  blk_point [iblk, V, block_index t]

/-- The bias of the decoder. -/
theorem blk12 (l : Fin 128) : iblk m c 12 t (ix2 0 l) = (argParams m c).bd l := by
  show _ = m ((c : Thread nD τ).loc main_arg11) (ix1 l)
  blk_point [iblk, V, block_index t]

/-- A sum over the 4096 pixels of an image, by rows and columns. -/
theorem sum_pixels (f : Fin 4096 → EReal) :
    ∑ x, f x = ∑ i : Fin 64, ∑ j : Fin 64, f ⟨i.val * 64 + j.val, by omega⟩ := by
  rw [← Fintype.sum_prod_type' (fun (i j : Fin 64) => f ⟨i.val * 64 + j.val, by omega⟩)]
  refine (Fintype.sum_equiv (finProdFinEquiv (m := 64) (n := 64)) _ f fun q => congrArg f (Fin.ext ?_)).symm
  show q.1.val * 64 + q.2.val = q.2.val + 64 * q.1.val
  omega

/-- What the kernel averages in row `r` are the band means of that row's image. -/
theorem means_apply (r : Fin 8) (l : Fin 128) :
    k0_pay13 (iblk m c 0 t) (ix2 r l) = argMeans m c (image t r) l := by
  rw [pay13_apply, sum_pixels]
  refine congrArg (· * _) (Finset.sum_congr rfl fun i _ => Finset.sum_congr rfl fun j _ => ?_)
  exact blk0 m c t r i j l

end Cert.VQ

end
-- ==== Proof.Sweep.lean ====
/-
  What the kernel's results and scratch hold after every grid point: each point leaves the results of its eight images, and the
  scratch carries the codebook's squared norms, the selector and the masks, and the errors summed over the images so far.
-/
module

public import proofs.«01_k».proof.Proof.Blocks

@[expose] public section

set_option maxRecDepth 16384

noncomputable section

namespace Cert.VQ

open Cert.KernelIdeal Cert.KernelIdeal.Gen Idealize.ShloMosaic Idealize.ShloMosaic.TcCoe

variable (m : (ℓ : Loc nD τ sig) → Buf (Elt Ideal) ℓ) (c : Dev nD) (t : Fin cfg0.N)

/-- The pooled features of a point are the latent codes of its images. -/
theorem pointCode_apply (r : Fin 8) (o : Fin 64) :
    pointCode m c t selector maskFirst maskLast (ix2 r o) = latent (argParams m c) (argMeans m c (image t r)) o := by
  have h1 := rows_layer1 (f := fun r => argMeans m c (image t r)) (W := (argParams m c).W1) (β := (argParams m c).b1)
    (fun r l => (unrolled_apply (k0_pay13 (iblk m c 0 t)) r l).trans (means_apply m c t r l))
    (blk1 m c t) (blk2 m c t)
  have h2 := rows_layer h1 (W := (argParams m c).W2) (β := (argParams m c).b2) (blk3 m c t) (blk4 m c t)
  have h3 := rows_layer h2 (W := (argParams m c).W3) (β := (argParams m c).b3) (blk5 m c t) (blk6 m c t)
  have h4 := rows_layer h3 (W := (argParams m c).W4) (β := (argParams m c).b4) (blk7 m c t) (blk8 m c t)
  exact rows_pooled h4 r o

/-- The distances of a point, under the codebook's squared norms. -/
theorem pointDists_apply {norms : Vec Ideal S1x8192 .f32}
    (hn : ∀ k, norms (ix2 0 k) = ∑ j, (argParams m c).code k j * (argParams m c).code k j) (r : Fin 8) (k : Fin 8192) :
    pointDists m c t norms selector maskFirst maskLast (ix2 r k)
      = dist (argParams m c) (latent (argParams m c) (argMeans m c (image t r))) k :=
  dists_apply (pointCode_apply m c t) (blk10 m c t) hn r k

/-- The point's results are those of its eight images. -/
structure Results (s : State) : Prop where
  recon : ∀ r l, s.recon (ix2 r l) = recon (argParams m c) (argMeans m c (image t r)) l
  quant : ∀ r j, s.quant (ix2 r j) = quant (argParams m c) (argMeans m c (image t r)) j
  index : ∀ r, s.index (ix2 r 0) = BitVec.ofNat 32 (index (argParams m c) (argMeans m c (image t r))).val

/-- The sum of `f` over the images of point `n`. -/
def pointSum (f : Fin 64 → EReal) (n : ℕ) : EReal := if h : n < cfg0.N then ∑ r, f (image ⟨n, h⟩ r) else 0

/-- The scratch after point `n`. -/
structure Carried (n : ℕ) (s : State) : Prop where
  norms : ∀ k, s.norms (ix2 0 k) = ∑ j, (argParams m c).code k j * (argParams m c).code k j
  reconSum : s.reconSum (ix2 0 0)
    = ∑ i ∈ Finset.range (n + 1), pointSum (fun x => reconErr (argParams m c) (argMeans m c x)) i
  quantSum : s.quantSum (ix2 0 0)
    = ∑ i ∈ Finset.range (n + 1), pointSum (fun x => quantErr (argParams m c) (argMeans m c x)) i
  sel : s.sel = selector
  first : s.first = maskFirst
  last : s.last = maskLast

section Chosen

variable {norms : Vec Ideal S1x8192 .f32}
  (hn : ∀ k, norms (ix2 0 k) = ∑ j, (argParams m c).code k j * (argParams m c).code k j)

include hn

/-- A point's blocks, from its codes and distances, hold its images' results. -/
theorem results_of {s : State}
    (hr : s.recon = k0_pay22 (pointDists m c t norms selector maskFirst maskLast)
      (rowMin (pointDists m c t norms selector maskFirst maskLast)) (iblk m c 9 t) (iblk m c 11 t) (iblk m c 12 t))
    (hq : s.quant = k0_pay21 (pointDists m c t norms selector maskFirst maskLast)
      (rowMin (pointDists m c t norms selector maskFirst maskLast)) (iblk m c 9 t))
    (hi : s.index = k0_pay20 (pointDists m c t norms selector maskFirst maskLast)
      (rowMin (pointDists m c t norms selector maskFirst maskLast))) : Results m c t s where
  recon r l := by
    rw [hr]
    exact pay22_apply (pointDists_apply m c t hn) (blk9 m c t) (blk11 m c t) (blk12 m c t) r l
  quant r j := by
    rw [hq]
    exact pay21_apply (pointDists_apply m c t hn) (blk9 m c t) r j
  index r := by
    rw [hi]
    exact pay20_apply (pointDists_apply m c t hn) r

/-- The point's reconstruction errors. -/
theorem pointReconErr_apply : pointReconErr m c t (pointDists m c t norms selector maskFirst maskLast) (ix2 0 0)
    = pointSum (fun x => reconErr (argParams m c) (argMeans m c x)) t.val := by
  rw [pointSum, dif_pos t.isLt]
  exact pay23_apply (pointDists_apply m c t hn) (blk9 m c t) (blk11 m c t) (blk12 m c t) (means_apply m c t)

/-- The point's quantization errors. -/
theorem pointQuantErr_apply : pointQuantErr m c t (pointCode m c t selector maskFirst maskLast)
      (pointDists m c t norms selector maskFirst maskLast) (ix2 0 0)
    = pointSum (fun x => quantErr (argParams m c) (argMeans m c x)) t.val := by
  rw [pointSum, dif_pos t.isLt]
  exact pay24_apply (pointDists_apply m c t hn) (blk9 m c t) (pointCode_apply m c t)

end Chosen

/-- The first point's store of the reconstruction error. -/
theorem pay1_apply (v : FVec Ideal S1x1 .f32) : k0_pay1 v (ix2 0 0) = v (ix2 0 0) := by pointwise [k0_pay1]

/-- The first point's store of the quantization error. -/
theorem pay2_apply (v : FVec Ideal S1x1 .f32) : k0_pay2 v (ix2 0 0) = v (ix2 0 0) := by pointwise [k0_pay2]

/-- A later point's addition to the reconstruction error. -/
theorem pay3_apply (v w : FVec Ideal S1x1 .f32) : k0_pay3 v w (ix2 0 0) = w (ix2 0 0) + v (ix2 0 0) := by
  pointwise [k0_pay3]

/-- A later point's addition to the quantization error. -/
theorem pay4_apply (v w : FVec Ideal S1x1 .f32) : k0_pay4 v w (ix2 0 0) = w (ix2 0 0) + v (ix2 0 0) := by
  pointwise [k0_pay4]

/-- The last point's scaling of the reconstruction error. -/
theorem pay5_apply (v : FVec Ideal S1x1 .f32) : k0_pay5 v (ix2 0 0) = v (ix2 0 0) * ((1 / 8192 : ℝ) : EReal) := by
  pointwise [k0_pay5]
  rw [word_inv_8192]

/-- The last point's scaling of the quantization error. -/
theorem pay6_apply (v : FVec Ideal S1x1 .f32) : k0_pay6 v (ix2 0 0) = v (ix2 0 0) * ((5 / 16384 : ℝ) : EReal) := by
  pointwise [k0_pay6]
  rw [word_quantScale]

/-- The last point's sum of the two losses. -/
theorem pay7_apply (v w : FVec Ideal S1x1 .f32) : k0_pay7 v w (ix2 0 0)
    = v (ix2 0 0) * ((1 / 8192 : ℝ) : EReal) + w (ix2 0 0) * ((5 / 16384 : ℝ) : EReal) := by
  pointwise [k0_pay7, k0_pay5, k0_pay6]
  rw [word_inv_8192, word_quantScale]

/-- The first point leaves its results, and the scratch filled. -/
theorem first_point (acc : State) (ht : t.val = 0) :
    Results m c t (Value.stAt0 m c t.val t.isLt acc) ∧ Carried m c t.val (Value.stAt0 m c t.val t.isLt acc) := by
  obtain ⟨hr, hq, hi, hn, hrs, hqs, hs, hf, hl⟩ := step_first m c t acc (by omega) (by omega) (by omega)
  have hnorms := pay8_apply (P := argParams m c) (blk10 m c t)
  refine ⟨results_of m c t hnorms hr hq hi, ⟨?_, ?_, ?_, hs, hf, hl⟩⟩
  · rw [hn]
    exact hnorms
  · rw [hrs, pay1_apply, pointReconErr_apply m c t hnorms, ht, Finset.sum_range_one]
  · rw [hqs, pay2_apply, pointQuantErr_apply m c t hnorms, ht, Finset.sum_range_one]

/-- A later point leaves its results, and adds its errors to the sums. -/
theorem later_point (acc : State) (n : ℕ) (ht : t.val = n + 1) (h : Carried m c n acc) :
    Results m c t (Value.stAt0 m c t.val t.isLt acc) ∧ Carried m c t.val (Value.stAt0 m c t.val t.isLt acc) := by
  have hN : t.val < 8 := lt_of_lt_of_eq t.isLt N_0
  have key : ∀ s : State,
      (let d := pointDists m c t acc.norms acc.sel acc.first acc.last
       s.recon = k0_pay22 d (rowMin d) (iblk m c 9 t) (iblk m c 11 t) (iblk m c 12 t)
      ∧ s.quant = k0_pay21 d (rowMin d) (iblk m c 9 t)
      ∧ s.index = k0_pay20 d (rowMin d)
      ∧ s.norms = acc.norms
      ∧ s.reconSum = k0_pay3 (pointReconErr m c t d) acc.reconSum
      ∧ s.quantSum = k0_pay4 (pointQuantErr m c t (pointCode m c t acc.sel acc.first acc.last) d) acc.quantSum
      ∧ s.sel = acc.sel
      ∧ s.first = acc.first
      ∧ s.last = acc.last) → Results m c t s ∧ Carried m c t.val s := by
    rintro s ⟨hr, hq, hi, hn, hrs, hqs, hs, hf, hl⟩
    rw [h.sel, h.first, h.last] at hr hq hi hrs hqs
    refine ⟨results_of m c t h.norms hr hq hi, ⟨?_, ?_, ?_, hs.trans h.sel, hf.trans h.first, hl.trans h.last⟩⟩
    · rw [hn]
      exact h.norms
    · rw [hrs, pay3_apply, pointReconErr_apply m c t h.norms, h.reconSum, ht, Finset.sum_range_succ _ (n + 1)]
    · rw [hqs, pay4_apply, pointQuantErr_apply m c t h.norms, h.quantSum, ht, Finset.sum_range_succ _ (n + 1)]
  by_cases h7 : t.val = 7
  · obtain ⟨hr, hq, hi, -, -, -, hrest⟩ := step_last m c t acc (by omega) (by omega) (by omega)
    exact key _ ⟨hr, hq, hi, hrest⟩
  · exact key _ (step_middle m c t acc (by omega) (by omega) (by omega))

/-- Every point leaves its results, and the scratch as stated. -/
theorem every_point : ∀ (n : ℕ) (hn : n < cfg0.N),
    Results m c ⟨n, hn⟩ (outsAt0 m c n hn) ∧ Carried m c n (outsAt0 m c n hn)
  | 0, hn => by
    rw [Value.outsAt0_zero]
    exact first_point m c ⟨0, hn⟩ _ rfl
  | n + 1, hn => later_point m c ⟨n + 1, hn⟩ _ n rfl (every_point n (Nat.lt_of_succ_lt hn)).2

/-- The sums of the points' errors are the sums over the images. -/
theorem sum_points (f : Fin 64 → EReal) : ∑ i ∈ Finset.range 8, pointSum f i = ∑ n, f n := by
  rw [Finset.sum_range, Fintype.sum_congr (fun i : Fin 8 => pointSum f i.val)
    (fun i : Fin 8 => ∑ r : Fin 8, f ⟨i.val * 8 + r.val, by omega⟩)
    fun i => by rw [pointSum, dif_pos (lt_of_lt_of_eq i.isLt N_0.symm)]; rfl]
  rw [← Fintype.sum_prod_type' (fun (i r : Fin 8) => f ⟨i.val * 8 + r.val, by omega⟩)]
  refine Fintype.sum_equiv (finProdFinEquiv (m := 8) (n := 8)) _ f fun q => congrArg f (Fin.ext ?_)
  show q.1.val * 8 + q.2.val = q.2.val + 8 * q.1.val
  omega

/-- The last point's losses, from the sums it leaves. -/
theorem losses_of (acc : State) (ht : t.val = 7) (h : Carried m c t.val (Value.stAt0 m c t.val t.isLt acc)) :
    let s : State := Value.stAt0 m c t.val t.isLt acc
    s.loss (ix2 0 0) = reconLoss (argParams m c) (argMeans m c) + quantLoss (argParams m c) (argMeans m c)
      ∧ s.reconLoss (ix2 0 0) = reconLoss (argParams m c) (argMeans m c)
      ∧ s.quantLoss (ix2 0 0) = quantLoss (argParams m c) (argMeans m c) := by
  obtain ⟨-, -, -, hl, hr, hq, -⟩ := step_last m c t acc (by omega) (by omega) (by omega)
  have e : ∀ f, ∑ i ∈ Finset.range (t.val + 1), pointSum f i = ∑ n, f n := fun f => by
    rw [ht]
    exact sum_points f
  have hrs := h.reconSum.trans (e _)
  have hqs := h.quantSum.trans (e _)
  intro s
  refine ⟨?_, ?_, ?_⟩
  · rw [hl, pay7_apply, hrs, hqs]
    rfl
  · rw [hr, pay5_apply, hrs]
    rfl
  · rw [hq, pay6_apply, hqs]
    rfl

/-- The last point leaves the three losses. -/
theorem last_point : ∀ (n : ℕ) (hn : n < cfg0.N), n = 7 →
    (State.loss (outsAt0 m c n hn) (ix2 0 0)
        = reconLoss (argParams m c) (argMeans m c) + quantLoss (argParams m c) (argMeans m c)
      ∧ State.reconLoss (outsAt0 m c n hn) (ix2 0 0) = reconLoss (argParams m c) (argMeans m c)
      ∧ State.quantLoss (outsAt0 m c n hn) (ix2 0 0) = quantLoss (argParams m c) (argMeans m c))
  | n + 1, hn, h7 => losses_of m c ⟨n + 1, hn⟩ _ h7 (every_point m c (n + 1) hn).2

end Cert.VQ

end
-- ==== Proof.KernelValue.lean ====
/-
  What the kernel's six results hold after its run, in terms of the arguments.
-/
module

public import proofs.«01_k».proof.Proof.Sweep

@[expose] public section

set_option maxRecDepth 16384

noncomputable section

namespace Cert.VQ

open Cert.KernelIdeal Cert.KernelIdeal.Gen Idealize.ShloMosaic Idealize.ShloMosaic.TcCoe

variable (m : (ℓ : Loc nD τ sig) → Buf (Elt Ideal) ℓ) (c : Dev nD)

/-- The point whose block holds image `n`. -/
theorem point_lt (n : Fin 64) : n.val / 8 < cfg0.N :=
  lt_of_lt_of_eq (by omega : n.val / 8 < 8) N_0.symm

/-- Image `n` lies in row `n % 8` of the block of point `n / 8`. -/
theorem image_point (n : Fin 64) : image ⟨n.val / 8, point_lt n⟩ ⟨n.val % 8, by omega⟩ = n :=
  Fin.ext (by show n.val / 8 * 8 + n.val % 8 = n.val; omega)

/-- The carried state up to a point is what that point leaves. -/
theorem fold_eq {j j' : ℕ} (h : 0 + j < cfg0.N) (hj : j = j') (h' : j' < cfg0.N) :
    Pipeline.accAt (fun n h => Value.stAt0 m c n h Value.junk0) (Value.stAt0 m c) 0 j h = outsAt0 m c j' h' := by
  subst hj
  exact (Value.outsAt0_sweep m c j h').symm

/-- The reconstructions. -/
theorem recon_array (n : Fin 64) (l : Fin 128) :
    Value.G13 m c (ix2 n l) = recon (argParams m c) (argMeans m c n) l := by
  have hp : Value.pt13Of (ix2 n l) = n.val / 8 := by
    show 1 * (n.val / 8 - 0) + 1 * (l.val / 128 - 0) = n.val / 8
    omega
  have hl : Value.loc13Of (ix2 n l) = ix2 ⟨n.val % 8, by omega⟩ l := by
    funext a
    apply Fin.ext
    match a with
    | ⟨0, _⟩ => rfl
    | ⟨1, _⟩ => exact Nat.mod_eq_of_lt l.isLt
  unfold Value.G13
  rw [dif_pos (hp ▸ point_lt n), fold_eq m c _ hp (point_lt n), hl]
  refine ((every_point m c _ (point_lt n)).1.recon ⟨n.val % 8, by omega⟩ l).trans ?_
  rw [image_point]

/-- The quantized codes. -/
theorem quant_array (n j : Fin 64) :
    Value.G14 m c (ix2 n j) = quant (argParams m c) (argMeans m c n) j := by
  have hp : Value.pt14Of (ix2 n j) = n.val / 8 := by
    show 1 * (n.val / 8 - 0) + 1 * (j.val / 64 - 0) = n.val / 8
    omega
  have hl : Value.loc14Of (ix2 n j) = ix2 ⟨n.val % 8, by omega⟩ j := by
    funext a
    apply Fin.ext
    match a with
    | ⟨0, _⟩ => rfl
    | ⟨1, _⟩ => exact Nat.mod_eq_of_lt j.isLt
  unfold Value.G14
  rw [dif_pos (hp ▸ point_lt n), fold_eq m c _ hp (point_lt n), hl]
  refine ((every_point m c _ (point_lt n)).1.quant ⟨n.val % 8, by omega⟩ j).trans ?_
  rw [image_point]

/-- The chosen indices. -/
theorem index_array (n : Fin 64) :
    Value.G15 m c (ix2 n 0) = BitVec.ofNat 32 (index (argParams m c) (argMeans m c n)).val := by
  have hp : Value.pt15Of (ix2 n 0) = n.val / 8 := by
    show 1 * (n.val / 8 - 0) + 1 * (0 / 1 - 0) = n.val / 8
    omega
  have hl : Value.loc15Of (ix2 n 0) = ix2 ⟨n.val % 8, by omega⟩ 0 := by
    funext a
    apply Fin.ext
    match a with
    | ⟨0, _⟩ => rfl
    | ⟨1, _⟩ => rfl
  unfold Value.G15
  rw [dif_pos (hp ▸ point_lt n), fold_eq m c _ hp (point_lt n), hl]
  refine ((every_point m c _ (point_lt n)).1.index ⟨n.val % 8, by omega⟩).trans ?_
  rw [image_point]

/-- The sum of the two losses. -/
theorem loss_array : Value.G16 m c (ix2 0 0)
    = reconLoss (argParams m c) (argMeans m c) + quantLoss (argParams m c) (argMeans m c) := by
  rw [Value.G16_last, fold_eq m c _ rfl (lt_of_lt_of_eq (by decide) N_0.symm)]
  exact (last_point m c 7 _ rfl).1

/-- The reconstruction loss. -/
theorem reconLoss_array : Value.G17 m c (ix2 0 0) = reconLoss (argParams m c) (argMeans m c) := by
  rw [Value.G17_last, fold_eq m c _ rfl (lt_of_lt_of_eq (by decide) N_0.symm)]
  exact (last_point m c 7 _ rfl).2.1

/-- The quantization loss. -/
theorem quantLoss_array : Value.G18 m c (ix2 0 0) = quantLoss (argParams m c) (argMeans m c) := by
  rw [Value.G18_last, fold_eq m c _ rfl (lt_of_lt_of_eq (by decide) N_0.symm)]
  exact (last_point m c 7 _ rfl).2.2

end Cert.VQ

end
-- ==== Proof.RealCode.lean ====
/-
  Where the pixels and the encoder's weights and biases are real numbers, so is the latent code.
-/
module

public import proofs.«01_k».proof.Proof.Spec

@[expose] public section

noncomputable section

namespace Cert.VQ

/-- An extended real that is a real number. -/
def IsReal (x : EReal) : Prop := ∃ r : ℝ, x = r

/-- Zero is real. -/
theorem IsReal.zero : IsReal 0 := ⟨0, rfl⟩

/-- A real number is real. -/
theorem IsReal.coe (r : ℝ) : IsReal (r : EReal) := ⟨r, rfl⟩

/-- A sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The greater of two reals is real. -/
theorem IsReal.max {x y : EReal} (hx : IsReal x) (hy : IsReal y) : IsReal (max x y) := by
  rcases max_choice x y with h | h
  · rwa [h]
  · rwa [h]

/-- A finite sum of reals is real. -/
theorem IsReal.sum {ι : Type*} (s : Finset ι) {f : ι → EReal} (h : ∀ i, IsReal (f i)) : IsReal (∑ i ∈ s, f i) :=
  exists_coe_sum s f fun i _ => h i

/-- The value one band to the left of real values is real. -/
theorem left_real {h : Fin 128 → EReal} (hh : ∀ l, IsReal (h l)) (l : Fin 128) : IsReal (left h l) := by
  unfold left
  split
  · exact IsReal.zero
  · exact hh _

/-- The value one band to the right of real values is real. -/
theorem right_real {h : Fin 128 → EReal} (hh : ∀ l, IsReal (h l)) (l : Fin 128) : IsReal (right h l) := by
  unfold right
  split
  · exact hh _
  · exact IsReal.zero

/-- A layer of real weights, bias and channels has real features. -/
theorem conv_real {C : ℕ} {W : Fin 64 → Fin C → Fin 3 → EReal} {b : Fin 64 → EReal} {h : Fin C → Fin 128 → EReal}
    (hW : ∀ o c k, IsReal (W o c k)) (hb : ∀ o, IsReal (b o)) (hh : ∀ c l, IsReal (h c l)) (o : Fin 64) (l : Fin 128) :
    IsReal (conv W b h o l) :=
  ((((IsReal.sum _ fun c => (hW o c 0).mul (left_real (hh c) l)).add
    (IsReal.sum _ fun c => (hW o c 1).mul (hh c l))).add
    (IsReal.sum _ fun c => (hW o c 2).mul (right_real (hh c) l))).add (hb o)).max IsReal.zero

/-- The band means of real pixels are real. -/
theorem bandMean_real {x : Fin 128 → Fin 64 → Fin 64 → EReal} (hx : ∀ l i j, IsReal (x l i j)) (l : Fin 128) :
    IsReal (bandMean x l) :=
  (IsReal.sum _ fun i => IsReal.sum _ fun j => hx l i j).mul (IsReal.coe _)

/-- The weights and biases of the four layers are real. -/
structure Params.Finite (P : Params) : Prop where
  W1 : ∀ o c k, IsReal (P.W1 o c k)
  b1 : ∀ o, IsReal (P.b1 o)
  W2 : ∀ o c k, IsReal (P.W2 o c k)
  b2 : ∀ o, IsReal (P.b2 o)
  W3 : ∀ o c k, IsReal (P.W3 o c k)
  b3 : ∀ o, IsReal (P.b3 o)
  W4 : ∀ o c k, IsReal (P.W4 o c k)
  b4 : ∀ o, IsReal (P.b4 o)

/-- The latent code of real band means under real weights and biases is real. -/
theorem latent_real {P : Params} (hP : P.Finite) {p : Fin 128 → EReal} (hp : ∀ l, IsReal (p l)) (o : Fin 64) :
    IsReal (latent P p o) :=
  (IsReal.sum _ fun l => conv_real hP.W4 hP.b4 (conv_real hP.W3 hP.b3 (conv_real hP.W2 hP.b2
    (conv_real hP.W1 hP.b1 fun _ => hp))) o l).mul (IsReal.coe _)

end Cert.VQ

end
-- ==== Proof.Pre.lean ====
/-
  What the precondition says: the pixels and the encoder's weights and biases are real numbers.
-/
module

public import proofs.«01_k».proof.Pre_encoder_finite
public import proofs.«01_k».proof.Proof.RealCode
public import Idealize.ShloMosaic.Lib.Decide

@[expose] public section

set_option maxRecDepth 16384

noncomputable section

namespace Cert.VQ.Pre

open Cert.Pre_encoder_finite Idealize.ShloMosaic

/-- The relations of shapes that the precondition's operations take. -/
theorem facts : Cert.Pre_encoder_finite.Facts where
  bcast_S_S64x128x64x64 := by decide
  reducesTo_S64x128x64x64_S_d0_1_2_3 := by decide
  h_S_ := by decide
  bcast_S_S64x1x3 := by decide
  reducesTo_S64x1x3_S_d0_1_2 := by decide
  bcast_S_S64 := by decide
  reducesTo_S64_S_d0 := by decide
  bcast_S_S64x64x3 := by decide
  reducesTo_S64x64x3_S_d0_1_2 := by decide

/-- A conjunction of bits is one exactly where both are. -/
theorem andi_eq_one (x y : BitVec 1) : IntOp.andi x y = 1#1 ↔ x = 1#1 ∧ y = 1#1 := by
  revert x y; decide

/-- An array of conjunctions of bits is one everywhere exactly where both arrays are. -/
theorem andi_all {s : Shape} {u v : IVec s 1} (h : andi u v = fun _ => 1#1) :
    u = (fun _ => 1#1) ∧ v = fun _ => 1#1 :=
  ⟨funext fun i => ((andi_eq_one _ _).1 (congrFun h i)).1, funext fun i => ((andi_eq_one _ _).1 (congrFun h i)).2⟩

/-- A value whose magnitude lies under the infinity is real. -/
theorem real_of_abs_lt {x : EReal} (h : max x (-x) < ⊤) : IsReal x := by
  induction x with
  | bot => simp at h
  | coe r => exact ⟨r, rfl⟩
  | top => simp at h

/-- An array whose magnitudes all lie under the infinity, as the reduction of the comparisons says, is real. -/
theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32)))
      (constantI S_ 1 1#1) hr hu = fun _ => 1#1) (i : s.Idx) : IsReal (x i) := by
  have h0 := congrFun h (hr.drop i)
  rw [Host.reduce_eq_fold] at h0
  have hall := (Finset.fold_op_rel_iff_and (op := IntOp.andi) (r := fun _ y : BitVec 1 => y = 1#1)
    (fun {_ y z} => andi_eq_one y z) (c := 1#1)).1 h0
  have hi : BitVec.ofBool (decide (max (x i) (-(x i)) < Ideal.ofBits .f32 0x7F800000#32)) = 1#1 :=
    hall.2 i (Finset.mem_filter.2 ⟨Finset.mem_univ _, funext fun a => a.elim0⟩)
  rw [word_top] at hi
  apply real_of_abs_lt
  by_contra hn
  rw [decide_eq_false hn] at hi
  exact absurd hi (by decide)

/-- The precondition: the pixels, and the weights and biases of the four layers, are real. -/
theorem finite [Cert.Pre_encoder_finite.Facts] (x : FVec Ideal S64x128x64x64 .f32)
    (W1 : FVec Ideal S64x1x3 .f32) (b1 : FVec Ideal S64 .f32) (W2 : FVec Ideal S64x64x3 .f32) (b2 : FVec Ideal S64 .f32)
    (W3 : FVec Ideal S64x64x3 .f32) (b3 : FVec Ideal S64 .f32) (W4 : FVec Ideal S64x64x3 .f32) (b4 : FVec Ideal S64 .f32)
    (code : FVec Ideal S8192x64 .f32) (Wd : FVec Ideal S128x64 .f32) (bd : FVec Ideal S128 .f32)
    (h : fn (F := Ideal) x W1 b1 W2 b2 W3 b3 W4 b4 code Wd bd = fun _ => 1#1) :
    (∀ i, IsReal (x i)) ∧ ((∀ i, IsReal (W1 i)) ∧ ∀ i, IsReal (b1 i)) ∧ ((∀ i, IsReal (W2 i)) ∧ ∀ i, IsReal (b2 i))
      ∧ ((∀ i, IsReal (W3 i)) ∧ ∀ i, IsReal (b3 i)) ∧ (∀ i, IsReal (W4 i)) ∧ ∀ i, IsReal (b4 i) := by
  simp only [fn, fn_part1, fn_part2] at h
  obtain ⟨h, h8⟩ := andi_all h
  obtain ⟨h, h7⟩ := andi_all h
  obtain ⟨h, h6⟩ := andi_all h
  obtain ⟨h, h5⟩ := andi_all h
  obtain ⟨h, h4⟩ := andi_all h
  obtain ⟨h, h3⟩ := andi_all h
  obtain ⟨h, h2⟩ := andi_all h
  obtain ⟨h0, h1⟩ := andi_all h
  exact ⟨real_of_all _ _ _ _ h0, ⟨real_of_all _ _ _ _ h1, real_of_all _ _ _ _ h2⟩,
    ⟨real_of_all _ _ _ _ h3, real_of_all _ _ _ _ h4⟩, ⟨real_of_all _ _ _ _ h5, real_of_all _ _ _ _ h6⟩,
    real_of_all _ _ _ _ h7, real_of_all _ _ _ _ h8⟩

end Cert.VQ.Pre

end
-- ==== Proof.RefRun.lean ====
/-
  The reference's run: its operations in order, in segments of one stage each, and the contents of its buffers after them.
-/
module

public import proofs.«01_k».proof.Proof.Gen.ReferenceIdeal
public import Idealize.ShloMosaic.Lib.StableHlo.Run

@[expose] public section

set_option maxRecDepth 16384

noncomputable section

namespace Cert.VQ.Ref

open Cert.ReferenceIdeal Cert.ReferenceIdeal.Gen Idealize.ShloMosaic Idealize.ShloMosaic.TcCoe Idealize.SL.Sem
  Idealize.ShloMosaic.StableHlo

variable {F : FTy → Type} [FloatOps F]

/-- The operations of the band means. -/
abbrev opsMean : List (HloOp τ sig (Elt F)) :=
  [ nullary main_cst (constant S_ .f32 0x00000000#32),
    binary main_arg0 main_cst main_v0 ((fun x v => Host.reduceAdd x v reducesTo_S64x128x64x64_S64x128_d3_2 h_S_) : (⟨S64x128x64x64, .f32⟩ : BufTy).Contents (Elt F) → (⟨S_, .f32⟩ : BufTy).Contents (Elt F) → (⟨S64x128, .f32⟩ : BufTy).Contents (Elt F)),
    nullary main_cst_0 (constant S_ .f32 0x45800000#32),
    unary main_cst_0 main_v1 (broadcastInDim S64x128 ![] bcast_S_S64x128 : (⟨S_, .f32⟩ : BufTy).Contents (Elt F) → (⟨S64x128, .f32⟩ : BufTy).Contents (Elt F)),
    binary main_v0 main_v1 main_v2 (Host.divf : (⟨S64x128, .f32⟩ : BufTy).Contents (Elt F) → (⟨S64x128, .f32⟩ : BufTy).Contents (Elt F) → (⟨S64x128, .f32⟩ : BufTy).Contents (Elt F)),
    unary main_v2 main_v3 (broadcastInDim S64x1x128 ![0, 2] bcast_S64x128_S64x1x128_0_2 : (⟨S64x128, .f32⟩ : BufTy).Contents (Elt F) → (⟨S64x1x128, .f32⟩ : BufTy).Contents (Elt F)) ]

/-- The buffers that they write. -/
abbrev writesMean : List (Ref sig .tc) :=
  [main_cst, main_v0, main_cst_0, main_v1, main_v2, main_v3]

/-- The operations of the first layer. -/
abbrev opsConv1 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S64x1x128, .f32⟩) main_v3) (TRef.of (T := ⟨S_, .f32⟩) main_call0_v0) (TRef.of (T := ⟨S64x1x130, .f32⟩) main_v4) (fun x v => pad S64x1x130 ![0, 0, 1] ![0, 0, 1] ![0, 0, 0] x v pads_S64x1x128_S64x1x130_000_000_110 h_S_),
    unary main_arg1 main_v5 ((extractStridedSlice S64x1x1 ![0, 0, 0] · slices_S64x1x3_S64x1x1_0_0_0) : (⟨S64x1x3, .f32⟩ : BufTy).Contents (Elt F) → (⟨S64x1x1, .f32⟩ : BufTy).Contents (Elt F)),
    reshape main_v5 main_v6 (rfl : (.f32 : EltTy) = .f32) shapeCasts_S64x1x1_S64x1,
    unary main_v4 main_v7 ((extractStridedSlice S64x1x128 ![0, 0, 0] · slices_S64x1x130_S64x1x128_0_0_0) : (⟨S64x1x130, .f32⟩ : BufTy).Contents (Elt F) → (⟨S64x1x128, .f32⟩ : BufTy).Contents (Elt F)),
    binary main_v7 main_v6 main_v8 ((fun l r => Host.dotGeneral dot_S64x1x128_S64x1_S64x128x64_1_1_02_0_n_n none l r) : (⟨S64x1x128, .f32⟩ : BufTy).Contents (Elt F) → (⟨S64x1, .f32⟩ : BufTy).Contents (Elt F) → (⟨S64x128x64, .f32⟩ : BufTy).Contents (Elt F)),
    unary main_v8 main_v9 ((transpose S64x64x128 [0, 2, 1] · transposes_S64x128x64_S64x64x128_0_2_1) : (⟨S64x128x64, .f32⟩ : BufTy).Contents (Elt F) → (⟨S64x64x128, .f32⟩ : BufTy).Contents (Elt F)),
    unary main_arg1 main_v10 ((extractStridedSlice S64x1x1 ![0, 0, 1] · slices_S64x1x3_S64x1x1_0_0_1) : (⟨S64x1x3, .f32⟩ : BufTy).Contents (Elt F) → (⟨S64x1x1, .f32⟩ : BufTy).Contents (Elt F)),
    reshape main_v10 main_v11 (rfl : (.f32 : EltTy) = .f32) shapeCasts_S64x1x1_S64x1,
    unary main_v4 main_v12 ((extractStridedSlice S64x1x128 ![0, 0, 1] · slices_S64x1x130_S64x1x128_0_0_1) : (⟨S64x1x130, .f32⟩ : BufTy).Contents (Elt F) → (⟨S64x1x128, .f32⟩ : BufTy).Contents (Elt F)),
    binary main_v12 main_v11 main_v13 ((fun l r => Host.dotGeneral dot_S64x1x128_S64x1_S64x128x64_1_1_02_0_n_n none l r) : (⟨S64x1x128, .f32⟩ : BufTy).Contents (Elt F) → (⟨S64x1, .f32⟩ : BufTy).Contents (Elt F) → (⟨S64x128x64, .f32⟩ : BufTy).Contents (Elt F)),
    unary main_v13 main_v14 ((transpose S64x64x128 [0, 2, 1] · transposes_S64x128x64_S64x64x128_0_2_1) : (⟨S64x128x64, .f32⟩ : BufTy).Contents (Elt F) → (⟨S64x64x128, .f32⟩ : BufTy).Contents (Elt F)),
    unary main_arg1 main_v15 ((extractStridedSlice S64x1x1 ![0, 0, 2] · slices_S64x1x3_S64x1x1_0_0_2) : (⟨S64x1x3, .f32⟩ : BufTy).Contents (Elt F) → (⟨S64x1x1, .f32⟩ : BufTy).Contents (Elt F)),
    reshape main_v15 main_v16 (rfl : (.f32 : EltTy) = .f32) shapeCasts_S64x1x1_S64x1,
    unary main_v4 main_v17 ((extractStridedSlice S64x1x128 ![0, 0, 2] · slices_S64x1x130_S64x1x128_0_0_2) : (⟨S64x1x130, .f32⟩ : BufTy).Contents (Elt F) → (⟨S64x1x128, .f32⟩ : BufTy).Contents (Elt F)),
    binary main_v17 main_v16 main_v18 ((fun l r => Host.dotGeneral dot_S64x1x128_S64x1_S64x128x64_1_1_02_0_n_n none l r) : (⟨S64x1x128, .f32⟩ : BufTy).Contents (Elt F) → (⟨S64x1, .f32⟩ : BufTy).Contents (Elt F) → (⟨S64x128x64, .f32⟩ : BufTy).Contents (Elt F)),
    unary main_v18 main_v19 ((transpose S64x64x128 [0, 2, 1] · transposes_S64x128x64_S64x64x128_0_2_1) : (⟨S64x128x64, .f32⟩ : BufTy).Contents (Elt F) → (⟨S64x64x128, .f32⟩ : BufTy).Contents (Elt F)),
    binary main_v9 main_v14 main_v20 (addf : (⟨S64x64x128, .f32⟩ : BufTy).Contents (Elt F) → (⟨S64x64x128, .f32⟩ : BufTy).Contents (Elt F) → (⟨S64x64x128, .f32⟩ : BufTy).Contents (Elt F)),
    binary main_v20 main_v19 main_v21 (addf : (⟨S64x64x128, .f32⟩ : BufTy).Contents (Elt F) → (⟨S64x64x128, .f32⟩ : BufTy).Contents (Elt F) → (⟨S64x64x128, .f32⟩ : BufTy).Contents (Elt F)),
    unary main_arg2 main_v22 (broadcastInDim S1x64x1 ![1] bcast_S64_S1x64x1_1 : (⟨S64, .f32⟩ : BufTy).Contents (Elt F) → (⟨S1x64x1, .f32⟩ : BufTy).Contents (Elt F)),
    unary main_v22 main_v23 (broadcastInDim S64x64x128 ![0, 1, 2] bcast_S1x64x1_S64x64x128_0_1_2 : (⟨S1x64x1, .f32⟩ : BufTy).Contents (Elt F) → (⟨S64x64x128, .f32⟩ : BufTy).Contents (Elt F)),
    binary main_v21 main_v23 main_v24 (addf : (⟨S64x64x128, .f32⟩ : BufTy).Contents (Elt F) → (⟨S64x64x128, .f32⟩ : BufTy).Contents (Elt F) → (⟨S64x64x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S64x64x128, .f32⟩) main_call1_v0) (broadcastInDim S64x64x128 ![] bcast_S_S64x64x128),
    TRef.binary (TRef.of (T := ⟨S64x64x128, .f32⟩) main_v24) (TRef.of (T := ⟨S64x64x128, .f32⟩) main_call1_v0) (TRef.of (T := ⟨S64x64x128, .f32⟩) main_v25) maximumf ]

/-- The buffers that they write. -/
abbrev writesConv1 : List (Ref sig .tc) :=
  [main_c, main_call0_v0, main_v4, main_v5, main_v6, main_v7, main_v8, main_v9, main_v10, main_v11, main_v12, main_v13, main_v14, main_v15, main_v16, main_v17, main_v18, main_v19, main_v20, main_v21, main_v22, main_v23, main_v24, main_call1_cst, main_call1_v0, main_v25]

/-- The operations of the second layer. -/
abbrev opsConv2 : List (HloOp τ sig (Elt F)) :=
  [ nullary main_c_1 (constantI S_ 32 0#32),
    TRef.unary (TRef.of (T := ⟨S_, .i32⟩) main_c_1) (TRef.of (T := ⟨S_, .f32⟩) main_call2_v0) (sitofp .f32),
    TRef.binary (TRef.of (T := ⟨S64x64x128, .f32⟩) main_v25) (TRef.of (T := ⟨S_, .f32⟩) main_call2_v0) (TRef.of (T := ⟨S64x64x130, .f32⟩) main_v26) (fun x v => pad S64x64x130 ![0, 0, 1] ![0, 0, 1] ![0, 0, 0] x v pads_S64x64x128_S64x64x130_000_000_110 h_S_),
    unary main_arg3 main_v27 ((extractStridedSlice S64x64x1 ![0, 0, 0] · slices_S64x64x3_S64x64x1_0_0_0) : (⟨S64x64x3, .f32⟩ : BufTy).Contents (Elt F) → (⟨S64x64x1, .f32⟩ : BufTy).Contents (Elt F)),
    reshape main_v27 main_v28 (rfl : (.f32 : EltTy) = .f32) shapeCasts_S64x64x1_S64x64,
    unary main_v26 main_v29 ((extractStridedSlice S64x64x128 ![0, 0, 0] · slices_S64x64x130_S64x64x128_0_0_0) : (⟨S64x64x130, .f32⟩ : BufTy).Contents (Elt F) → (⟨S64x64x128, .f32⟩ : BufTy).Contents (Elt F)),
    binary main_v29 main_v28 main_v30 ((fun l r => Host.dotGeneral dot_S64x64x128_S64x64_S64x128x64_1_1_02_0_n_n none l r) : (⟨S64x64x128, .f32⟩ : BufTy).Contents (Elt F) → (⟨S64x64, .f32⟩ : BufTy).Contents (Elt F) → (⟨S64x128x64, .f32⟩ : BufTy).Contents (Elt F)),
    unary main_v30 main_v31 ((transpose S64x64x128 [0, 2, 1] · transposes_S64x128x64_S64x64x128_0_2_1) : (⟨S64x128x64, .f32⟩ : BufTy).Contents (Elt F) → (⟨S64x64x128, .f32⟩ : BufTy).Contents (Elt F)),
    unary main_arg3 main_v32 ((extractStridedSlice S64x64x1 ![0, 0, 1] · slices_S64x64x3_S64x64x1_0_0_1) : (⟨S64x64x3, .f32⟩ : BufTy).Contents (Elt F) → (⟨S64x64x1, .f32⟩ : BufTy).Contents (Elt F)),
    reshape main_v32 main_v33 (rfl : (.f32 : EltTy) = .f32) shapeCasts_S64x64x1_S64x64,
    unary main_v26 main_v34 ((extractStridedSlice S64x64x128 ![0, 0, 1] · slices_S64x64x130_S64x64x128_0_0_1) : (⟨S64x64x130, .f32⟩ : BufTy).Contents (Elt F) → (⟨S64x64x128, .f32⟩ : BufTy).Contents (Elt F)),
    binary main_v34 main_v33 main_v35 ((fun l r => Host.dotGeneral dot_S64x64x128_S64x64_S64x128x64_1_1_02_0_n_n none l r) : (⟨S64x64x128, .f32⟩ : BufTy).Contents (Elt F) → (⟨S64x64, .f32⟩ : BufTy).Contents (Elt F) → (⟨S64x128x64, .f32⟩ : BufTy).Contents (Elt F)),
    unary main_v35 main_v36 ((transpose S64x64x128 [0, 2, 1] · transposes_S64x128x64_S64x64x128_0_2_1) : (⟨S64x128x64, .f32⟩ : BufTy).Contents (Elt F) → (⟨S64x64x128, .f32⟩ : BufTy).Contents (Elt F)),
    unary main_arg3 main_v37 ((extractStridedSlice S64x64x1 ![0, 0, 2] · slices_S64x64x3_S64x64x1_0_0_2) : (⟨S64x64x3, .f32⟩ : BufTy).Contents (Elt F) → (⟨S64x64x1, .f32⟩ : BufTy).Contents (Elt F)),
    reshape main_v37 main_v38 (rfl : (.f32 : EltTy) = .f32) shapeCasts_S64x64x1_S64x64,
    unary main_v26 main_v39 ((extractStridedSlice S64x64x128 ![0, 0, 2] · slices_S64x64x130_S64x64x128_0_0_2) : (⟨S64x64x130, .f32⟩ : BufTy).Contents (Elt F) → (⟨S64x64x128, .f32⟩ : BufTy).Contents (Elt F)),
    binary main_v39 main_v38 main_v40 ((fun l r => Host.dotGeneral dot_S64x64x128_S64x64_S64x128x64_1_1_02_0_n_n none l r) : (⟨S64x64x128, .f32⟩ : BufTy).Contents (Elt F) → (⟨S64x64, .f32⟩ : BufTy).Contents (Elt F) → (⟨S64x128x64, .f32⟩ : BufTy).Contents (Elt F)),
    unary main_v40 main_v41 ((transpose S64x64x128 [0, 2, 1] · transposes_S64x128x64_S64x64x128_0_2_1) : (⟨S64x128x64, .f32⟩ : BufTy).Contents (Elt F) → (⟨S64x64x128, .f32⟩ : BufTy).Contents (Elt F)),
    binary main_v31 main_v36 main_v42 (addf : (⟨S64x64x128, .f32⟩ : BufTy).Contents (Elt F) → (⟨S64x64x128, .f32⟩ : BufTy).Contents (Elt F) → (⟨S64x64x128, .f32⟩ : BufTy).Contents (Elt F)),
    binary main_v42 main_v41 main_v43 (addf : (⟨S64x64x128, .f32⟩ : BufTy).Contents (Elt F) → (⟨S64x64x128, .f32⟩ : BufTy).Contents (Elt F) → (⟨S64x64x128, .f32⟩ : BufTy).Contents (Elt F)),
    unary main_arg4 main_v44 (broadcastInDim S1x64x1 ![1] bcast_S64_S1x64x1_1 : (⟨S64, .f32⟩ : BufTy).Contents (Elt F) → (⟨S1x64x1, .f32⟩ : BufTy).Contents (Elt F)),
    unary main_v44 main_v45 (broadcastInDim S64x64x128 ![0, 1, 2] bcast_S1x64x1_S64x64x128_0_1_2 : (⟨S1x64x1, .f32⟩ : BufTy).Contents (Elt F) → (⟨S64x64x128, .f32⟩ : BufTy).Contents (Elt F)),
    binary main_v43 main_v45 main_v46 (addf : (⟨S64x64x128, .f32⟩ : BufTy).Contents (Elt F) → (⟨S64x64x128, .f32⟩ : BufTy).Contents (Elt F) → (⟨S64x64x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S64x64x128, .f32⟩) main_call3_v0) (broadcastInDim S64x64x128 ![] bcast_S_S64x64x128),
    TRef.binary (TRef.of (T := ⟨S64x64x128, .f32⟩) main_v46) (TRef.of (T := ⟨S64x64x128, .f32⟩) main_call3_v0) (TRef.of (T := ⟨S64x64x128, .f32⟩) main_v47) maximumf ]

/-- The buffers that they write. -/
abbrev writesConv2 : List (Ref sig .tc) :=
  [main_c_1, main_call2_v0, main_v26, main_v27, main_v28, main_v29, main_v30, main_v31, main_v32, main_v33, main_v34, main_v35, main_v36, main_v37, main_v38, main_v39, main_v40, main_v41, main_v42, main_v43, main_v44, main_v45, main_v46, main_call3_cst, main_call3_v0, main_v47]

/-- The operations of the third layer, its first part. -/
abbrev opsConv3a : List (HloOp τ sig (Elt F)) :=
  [ nullary main_c_2 (constantI S_ 32 0#32),
    TRef.unary (TRef.of (T := ⟨S_, .i32⟩) main_c_2) (TRef.of (T := ⟨S_, .f32⟩) main_call4_v0) (sitofp .f32),
    TRef.binary (TRef.of (T := ⟨S64x64x128, .f32⟩) main_v47) (TRef.of (T := ⟨S_, .f32⟩) main_call4_v0) (TRef.of (T := ⟨S64x64x130, .f32⟩) main_v48) (fun x v => pad S64x64x130 ![0, 0, 1] ![0, 0, 1] ![0, 0, 0] x v pads_S64x64x128_S64x64x130_000_000_110 h_S_),
    unary main_arg5 main_v49 ((extractStridedSlice S64x64x1 ![0, 0, 0] · slices_S64x64x3_S64x64x1_0_0_0) : (⟨S64x64x3, .f32⟩ : BufTy).Contents (Elt F) → (⟨S64x64x1, .f32⟩ : BufTy).Contents (Elt F)),
    reshape main_v49 main_v50 (rfl : (.f32 : EltTy) = .f32) shapeCasts_S64x64x1_S64x64,
    unary main_v48 main_v51 ((extractStridedSlice S64x64x128 ![0, 0, 0] · slices_S64x64x130_S64x64x128_0_0_0) : (⟨S64x64x130, .f32⟩ : BufTy).Contents (Elt F) → (⟨S64x64x128, .f32⟩ : BufTy).Contents (Elt F)),
    binary main_v51 main_v50 main_v52 ((fun l r => Host.dotGeneral dot_S64x64x128_S64x64_S64x128x64_1_1_02_0_n_n none l r) : (⟨S64x64x128, .f32⟩ : BufTy).Contents (Elt F) → (⟨S64x64, .f32⟩ : BufTy).Contents (Elt F) → (⟨S64x128x64, .f32⟩ : BufTy).Contents (Elt F)),
    unary main_v52 main_v53 ((transpose S64x64x128 [0, 2, 1] · transposes_S64x128x64_S64x64x128_0_2_1) : (⟨S64x128x64, .f32⟩ : BufTy).Contents (Elt F) → (⟨S64x64x128, .f32⟩ : BufTy).Contents (Elt F)),
    unary main_arg5 main_v54 ((extractStridedSlice S64x64x1 ![0, 0, 1] · slices_S64x64x3_S64x64x1_0_0_1) : (⟨S64x64x3, .f32⟩ : BufTy).Contents (Elt F) → (⟨S64x64x1, .f32⟩ : BufTy).Contents (Elt F)) ]

/-- The buffers that they write. -/
abbrev writesConv3a : List (Ref sig .tc) :=
  [main_c_2, main_call4_v0, main_v48, main_v49, main_v50, main_v51, main_v52, main_v53, main_v54]

/-- The operations of the third layer, its second part. -/
abbrev opsConv3b : List (HloOp τ sig (Elt F)) :=
  [ reshape main_v54 main_v55 (rfl : (.f32 : EltTy) = .f32) shapeCasts_S64x64x1_S64x64,
    unary main_v48 main_v56 ((extractStridedSlice S64x64x128 ![0, 0, 1] · slices_S64x64x130_S64x64x128_0_0_1) : (⟨S64x64x130, .f32⟩ : BufTy).Contents (Elt F) → (⟨S64x64x128, .f32⟩ : BufTy).Contents (Elt F)),
    binary main_v56 main_v55 main_v57 ((fun l r => Host.dotGeneral dot_S64x64x128_S64x64_S64x128x64_1_1_02_0_n_n none l r) : (⟨S64x64x128, .f32⟩ : BufTy).Contents (Elt F) → (⟨S64x64, .f32⟩ : BufTy).Contents (Elt F) → (⟨S64x128x64, .f32⟩ : BufTy).Contents (Elt F)),
    unary main_v57 main_v58 ((transpose S64x64x128 [0, 2, 1] · transposes_S64x128x64_S64x64x128_0_2_1) : (⟨S64x128x64, .f32⟩ : BufTy).Contents (Elt F) → (⟨S64x64x128, .f32⟩ : BufTy).Contents (Elt F)),
    unary main_arg5 main_v59 ((extractStridedSlice S64x64x1 ![0, 0, 2] · slices_S64x64x3_S64x64x1_0_0_2) : (⟨S64x64x3, .f32⟩ : BufTy).Contents (Elt F) → (⟨S64x64x1, .f32⟩ : BufTy).Contents (Elt F)),
    reshape main_v59 main_v60 (rfl : (.f32 : EltTy) = .f32) shapeCasts_S64x64x1_S64x64,
    unary main_v48 main_v61 ((extractStridedSlice S64x64x128 ![0, 0, 2] · slices_S64x64x130_S64x64x128_0_0_2) : (⟨S64x64x130, .f32⟩ : BufTy).Contents (Elt F) → (⟨S64x64x128, .f32⟩ : BufTy).Contents (Elt F)),
    binary main_v61 main_v60 main_v62 ((fun l r => Host.dotGeneral dot_S64x64x128_S64x64_S64x128x64_1_1_02_0_n_n none l r) : (⟨S64x64x128, .f32⟩ : BufTy).Contents (Elt F) → (⟨S64x64, .f32⟩ : BufTy).Contents (Elt F) → (⟨S64x128x64, .f32⟩ : BufTy).Contents (Elt F)),
    unary main_v62 main_v63 ((transpose S64x64x128 [0, 2, 1] · transposes_S64x128x64_S64x64x128_0_2_1) : (⟨S64x128x64, .f32⟩ : BufTy).Contents (Elt F) → (⟨S64x64x128, .f32⟩ : BufTy).Contents (Elt F)),
    binary main_v53 main_v58 main_v64 (addf : (⟨S64x64x128, .f32⟩ : BufTy).Contents (Elt F) → (⟨S64x64x128, .f32⟩ : BufTy).Contents (Elt F) → (⟨S64x64x128, .f32⟩ : BufTy).Contents (Elt F)),
    binary main_v64 main_v63 main_v65 (addf : (⟨S64x64x128, .f32⟩ : BufTy).Contents (Elt F) → (⟨S64x64x128, .f32⟩ : BufTy).Contents (Elt F) → (⟨S64x64x128, .f32⟩ : BufTy).Contents (Elt F)),
    unary main_arg6 main_v66 (broadcastInDim S1x64x1 ![1] bcast_S64_S1x64x1_1 : (⟨S64, .f32⟩ : BufTy).Contents (Elt F) → (⟨S1x64x1, .f32⟩ : BufTy).Contents (Elt F)),
    unary main_v66 main_v67 (broadcastInDim S64x64x128 ![0, 1, 2] bcast_S1x64x1_S64x64x128_0_1_2 : (⟨S1x64x1, .f32⟩ : BufTy).Contents (Elt F) → (⟨S64x64x128, .f32⟩ : BufTy).Contents (Elt F)),
    binary main_v65 main_v67 main_v68 (addf : (⟨S64x64x128, .f32⟩ : BufTy).Contents (Elt F) → (⟨S64x64x128, .f32⟩ : BufTy).Contents (Elt F) → (⟨S64x64x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S64x64x128, .f32⟩) main_call5_v0) (broadcastInDim S64x64x128 ![] bcast_S_S64x64x128),
    TRef.binary (TRef.of (T := ⟨S64x64x128, .f32⟩) main_v68) (TRef.of (T := ⟨S64x64x128, .f32⟩) main_call5_v0) (TRef.of (T := ⟨S64x64x128, .f32⟩) main_v69) maximumf ]

/-- The buffers that they write. -/
abbrev writesConv3b : List (Ref sig .tc) :=
  [main_v55, main_v56, main_v57, main_v58, main_v59, main_v60, main_v61, main_v62, main_v63, main_v64, main_v65, main_v66, main_v67, main_v68, main_call5_cst, main_call5_v0, main_v69]

/-- The operations of the fourth layer. -/
abbrev opsConv4 : List (HloOp τ sig (Elt F)) :=
  [ nullary main_c_3 (constantI S_ 32 0#32),
    TRef.unary (TRef.of (T := ⟨S_, .i32⟩) main_c_3) (TRef.of (T := ⟨S_, .f32⟩) main_call6_v0) (sitofp .f32),
    TRef.binary (TRef.of (T := ⟨S64x64x128, .f32⟩) main_v69) (TRef.of (T := ⟨S_, .f32⟩) main_call6_v0) (TRef.of (T := ⟨S64x64x130, .f32⟩) main_v70) (fun x v => pad S64x64x130 ![0, 0, 1] ![0, 0, 1] ![0, 0, 0] x v pads_S64x64x128_S64x64x130_000_000_110 h_S_),
    unary main_arg7 main_v71 ((extractStridedSlice S64x64x1 ![0, 0, 0] · slices_S64x64x3_S64x64x1_0_0_0) : (⟨S64x64x3, .f32⟩ : BufTy).Contents (Elt F) → (⟨S64x64x1, .f32⟩ : BufTy).Contents (Elt F)),
    reshape main_v71 main_v72 (rfl : (.f32 : EltTy) = .f32) shapeCasts_S64x64x1_S64x64,
    unary main_v70 main_v73 ((extractStridedSlice S64x64x128 ![0, 0, 0] · slices_S64x64x130_S64x64x128_0_0_0) : (⟨S64x64x130, .f32⟩ : BufTy).Contents (Elt F) → (⟨S64x64x128, .f32⟩ : BufTy).Contents (Elt F)),
    binary main_v73 main_v72 main_v74 ((fun l r => Host.dotGeneral dot_S64x64x128_S64x64_S64x128x64_1_1_02_0_n_n none l r) : (⟨S64x64x128, .f32⟩ : BufTy).Contents (Elt F) → (⟨S64x64, .f32⟩ : BufTy).Contents (Elt F) → (⟨S64x128x64, .f32⟩ : BufTy).Contents (Elt F)),
    unary main_v74 main_v75 ((transpose S64x64x128 [0, 2, 1] · transposes_S64x128x64_S64x64x128_0_2_1) : (⟨S64x128x64, .f32⟩ : BufTy).Contents (Elt F) → (⟨S64x64x128, .f32⟩ : BufTy).Contents (Elt F)),
    unary main_arg7 main_v76 ((extractStridedSlice S64x64x1 ![0, 0, 1] · slices_S64x64x3_S64x64x1_0_0_1) : (⟨S64x64x3, .f32⟩ : BufTy).Contents (Elt F) → (⟨S64x64x1, .f32⟩ : BufTy).Contents (Elt F)),
    reshape main_v76 main_v77 (rfl : (.f32 : EltTy) = .f32) shapeCasts_S64x64x1_S64x64,
    unary main_v70 main_v78 ((extractStridedSlice S64x64x128 ![0, 0, 1] · slices_S64x64x130_S64x64x128_0_0_1) : (⟨S64x64x130, .f32⟩ : BufTy).Contents (Elt F) → (⟨S64x64x128, .f32⟩ : BufTy).Contents (Elt F)),
    binary main_v78 main_v77 main_v79 ((fun l r => Host.dotGeneral dot_S64x64x128_S64x64_S64x128x64_1_1_02_0_n_n none l r) : (⟨S64x64x128, .f32⟩ : BufTy).Contents (Elt F) → (⟨S64x64, .f32⟩ : BufTy).Contents (Elt F) → (⟨S64x128x64, .f32⟩ : BufTy).Contents (Elt F)),
    unary main_v79 main_v80 ((transpose S64x64x128 [0, 2, 1] · transposes_S64x128x64_S64x64x128_0_2_1) : (⟨S64x128x64, .f32⟩ : BufTy).Contents (Elt F) → (⟨S64x64x128, .f32⟩ : BufTy).Contents (Elt F)),
    unary main_arg7 main_v81 ((extractStridedSlice S64x64x1 ![0, 0, 2] · slices_S64x64x3_S64x64x1_0_0_2) : (⟨S64x64x3, .f32⟩ : BufTy).Contents (Elt F) → (⟨S64x64x1, .f32⟩ : BufTy).Contents (Elt F)),
    reshape main_v81 main_v82 (rfl : (.f32 : EltTy) = .f32) shapeCasts_S64x64x1_S64x64,
    unary main_v70 main_v83 ((extractStridedSlice S64x64x128 ![0, 0, 2] · slices_S64x64x130_S64x64x128_0_0_2) : (⟨S64x64x130, .f32⟩ : BufTy).Contents (Elt F) → (⟨S64x64x128, .f32⟩ : BufTy).Contents (Elt F)),
    binary main_v83 main_v82 main_v84 ((fun l r => Host.dotGeneral dot_S64x64x128_S64x64_S64x128x64_1_1_02_0_n_n none l r) : (⟨S64x64x128, .f32⟩ : BufTy).Contents (Elt F) → (⟨S64x64, .f32⟩ : BufTy).Contents (Elt F) → (⟨S64x128x64, .f32⟩ : BufTy).Contents (Elt F)),
    unary main_v84 main_v85 ((transpose S64x64x128 [0, 2, 1] · transposes_S64x128x64_S64x64x128_0_2_1) : (⟨S64x128x64, .f32⟩ : BufTy).Contents (Elt F) → (⟨S64x64x128, .f32⟩ : BufTy).Contents (Elt F)),
    binary main_v75 main_v80 main_v86 (addf : (⟨S64x64x128, .f32⟩ : BufTy).Contents (Elt F) → (⟨S64x64x128, .f32⟩ : BufTy).Contents (Elt F) → (⟨S64x64x128, .f32⟩ : BufTy).Contents (Elt F)),
    binary main_v86 main_v85 main_v87 (addf : (⟨S64x64x128, .f32⟩ : BufTy).Contents (Elt F) → (⟨S64x64x128, .f32⟩ : BufTy).Contents (Elt F) → (⟨S64x64x128, .f32⟩ : BufTy).Contents (Elt F)),
    unary main_arg8 main_v88 (broadcastInDim S1x64x1 ![1] bcast_S64_S1x64x1_1 : (⟨S64, .f32⟩ : BufTy).Contents (Elt F) → (⟨S1x64x1, .f32⟩ : BufTy).Contents (Elt F)),
    unary main_v88 main_v89 (broadcastInDim S64x64x128 ![0, 1, 2] bcast_S1x64x1_S64x64x128_0_1_2 : (⟨S1x64x1, .f32⟩ : BufTy).Contents (Elt F) → (⟨S64x64x128, .f32⟩ : BufTy).Contents (Elt F)),
    binary main_v87 main_v89 main_v90 (addf : (⟨S64x64x128, .f32⟩ : BufTy).Contents (Elt F) → (⟨S64x64x128, .f32⟩ : BufTy).Contents (Elt F) → (⟨S64x64x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S64x64x128, .f32⟩) main_call7_v0) (broadcastInDim S64x64x128 ![] bcast_S_S64x64x128),
    TRef.binary (TRef.of (T := ⟨S64x64x128, .f32⟩) main_v90) (TRef.of (T := ⟨S64x64x128, .f32⟩) main_call7_v0) (TRef.of (T := ⟨S64x64x128, .f32⟩) main_v91) maximumf ]

/-- The buffers that they write. -/
abbrev writesConv4 : List (Ref sig .tc) :=
  [main_c_3, main_call6_v0, main_v70, main_v71, main_v72, main_v73, main_v74, main_v75, main_v76, main_v77, main_v78, main_v79, main_v80, main_v81, main_v82, main_v83, main_v84, main_v85, main_v86, main_v87, main_v88, main_v89, main_v90, main_call7_cst, main_call7_v0, main_v91]

/-- The operations of the mean over the bands. -/
abbrev opsPool : List (HloOp τ sig (Elt F)) :=
  [ nullary main_cst_4 (constant S_ .f32 0x00000000#32),
    binary main_v91 main_cst_4 main_v92 ((fun x v => Host.reduceAdd x v reducesTo_S64x64x128_S64x64_d2 h_S_) : (⟨S64x64x128, .f32⟩ : BufTy).Contents (Elt F) → (⟨S_, .f32⟩ : BufTy).Contents (Elt F) → (⟨S64x64, .f32⟩ : BufTy).Contents (Elt F)),
    nullary main_cst_5 (constant S_ .f32 0x43000000#32),
    unary main_cst_5 main_v93 (broadcastInDim S64x64 ![] bcast_S_S64x64 : (⟨S_, .f32⟩ : BufTy).Contents (Elt F) → (⟨S64x64, .f32⟩ : BufTy).Contents (Elt F)),
    binary main_v92 main_v93 main_v94 (Host.divf : (⟨S64x64, .f32⟩ : BufTy).Contents (Elt F) → (⟨S64x64, .f32⟩ : BufTy).Contents (Elt F) → (⟨S64x64, .f32⟩ : BufTy).Contents (Elt F)) ]

/-- The buffers that they write. -/
abbrev writesPool : List (Ref sig .tc) :=
  [main_cst_4, main_v92, main_cst_5, main_v93, main_v94]

/-- The operations of the distances. -/
abbrev opsDist : List (HloOp τ sig (Elt F)) :=
  [ binary main_v94 main_v94 main_v95 (mulf : (⟨S64x64, .f32⟩ : BufTy).Contents (Elt F) → (⟨S64x64, .f32⟩ : BufTy).Contents (Elt F) → (⟨S64x64, .f32⟩ : BufTy).Contents (Elt F)),
    nullary main_cst_6 (constant S_ .f32 0x00000000#32),
    binary main_v95 main_cst_6 main_v96 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    unary main_v96 main_v97 (broadcastInDim S64x1 ![0] bcast_S64_S64x1_0 : (⟨S64, .f32⟩ : BufTy).Contents (Elt F) → (⟨S64x1, .f32⟩ : BufTy).Contents (Elt F)),
    nullary main_cst_7 (constant S_ .f32 0x40000000#32),
    unary main_cst_7 main_v98 (broadcastInDim S64x64 ![] bcast_S_S64x64 : (⟨S_, .f32⟩ : BufTy).Contents (Elt F) → (⟨S64x64, .f32⟩ : BufTy).Contents (Elt F)),
    binary main_v98 main_v94 main_v99 (mulf : (⟨S64x64, .f32⟩ : BufTy).Contents (Elt F) → (⟨S64x64, .f32⟩ : BufTy).Contents (Elt F) → (⟨S64x64, .f32⟩ : BufTy).Contents (Elt F)),
    unary main_arg9 main_v100 ((transpose S64x8192 [1, 0] · transposes_S8192x64_S64x8192_1_0) : (⟨S8192x64, .f32⟩ : BufTy).Contents (Elt F) → (⟨S64x8192, .f32⟩ : BufTy).Contents (Elt F)),
    binary main_v99 main_v100 main_v101 ((fun l r => Host.dotGeneral dot_S64x64_S64x8192_S64x8192_1_0_0_1_n_n none l r) : (⟨S64x64, .f32⟩ : BufTy).Contents (Elt F) → (⟨S64x8192, .f32⟩ : BufTy).Contents (Elt F) → (⟨S64x8192, .f32⟩ : BufTy).Contents (Elt F)),
    unary main_v97 main_v102 (broadcastInDim S64x8192 ![0, 1] bcast_S64x1_S64x8192_0_1 : (⟨S64x1, .f32⟩ : BufTy).Contents (Elt F) → (⟨S64x8192, .f32⟩ : BufTy).Contents (Elt F)),
    binary main_v102 main_v101 main_v103 (subf : (⟨S64x8192, .f32⟩ : BufTy).Contents (Elt F) → (⟨S64x8192, .f32⟩ : BufTy).Contents (Elt F) → (⟨S64x8192, .f32⟩ : BufTy).Contents (Elt F)),
    binary main_arg9 main_arg9 main_v104 (mulf : (⟨S8192x64, .f32⟩ : BufTy).Contents (Elt F) → (⟨S8192x64, .f32⟩ : BufTy).Contents (Elt F) → (⟨S8192x64, .f32⟩ : BufTy).Contents (Elt F)),
    nullary main_cst_8 (constant S_ .f32 0x00000000#32),
    binary main_v104 main_cst_8 main_v105 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v105 main_v106 (broadcastInDim S1x8192 ![1] bcast_S8192_S1x8192_1 : (⟨S8192, .f32⟩ : BufTy).Contents (Elt F) → (⟨S1x8192, .f32⟩ : BufTy).Contents (Elt F)),
    unary main_v106 main_v107 (broadcastInDim S64x8192 ![0, 1] bcast_S1x8192_S64x8192_0_1 : (⟨S1x8192, .f32⟩ : BufTy).Contents (Elt F) → (⟨S64x8192, .f32⟩ : BufTy).Contents (Elt F)),
    binary main_v103 main_v107 main_v108 (addf : (⟨S64x8192, .f32⟩ : BufTy).Contents (Elt F) → (⟨S64x8192, .f32⟩ : BufTy).Contents (Elt F) → (⟨S64x8192, .f32⟩ : BufTy).Contents (Elt F)) ]

/-- The buffers that they write. -/
abbrev writesDist : List (Ref sig .tc) :=
  [main_v95, main_cst_6, main_v96, main_v97, main_cst_7, main_v98, main_v99, main_v100, main_v101, main_v102, main_v103, main_v104, main_cst_8, main_v105, main_v106, main_v107, main_v108]

/-- The operations of the chosen indices. -/
abbrev opsArgmin : List (HloOp τ sig (Elt F)) :=
  [ TRef.nullary (TRef.of (T := ⟨S64x8192, .i32⟩) main_call8_v0) (iotaInDim S64x8192 32 1),
    TRef.nullary (TRef.of (T := ⟨S_, .f32⟩) main_call8_cst) (constant S_ .f32 0x7F800000#32),
    TRef.nullary (TRef.of (T := ⟨S_, .i32⟩) main_call8_c) (constantI S_ 32 0#32),
    TRef.quaternary (TRef.of (T := ⟨S64x8192, .f32⟩) main_v108) (TRef.of (T := ⟨S64x8192, .i32⟩) main_call8_v0) (TRef.of (T := ⟨S_, .f32⟩) main_call8_cst) (TRef.of (T := ⟨S_, .i32⟩) main_call8_c) (TRef.of (T := ⟨S64, .f32⟩) main_call8_v1_0) (fun x y u v j => (Host.argReduce reducer_argmin_f32_i32 x y u v reducesTo_S64x8192_S64_d1 h_S_ j).1),
    TRef.quaternary (TRef.of (T := ⟨S64x8192, .f32⟩) main_v108) (TRef.of (T := ⟨S64x8192, .i32⟩) main_call8_v0) (TRef.of (T := ⟨S_, .f32⟩) main_call8_cst) (TRef.of (T := ⟨S_, .i32⟩) main_call8_c) (TRef.of (T := ⟨S64, .i32⟩) main_v109) (fun x y u v j => (Host.argReduce reducer_argmin_f32_i32 x y u v reducesTo_S64x8192_S64_d1 h_S_ j).2) ]

/-- The buffers that they write. -/
abbrev writesArgmin : List (Ref sig .tc) :=
  [main_call8_v0, main_call8_cst, main_call8_c, main_call8_v1_0, main_v109]

/-- The operations of the chosen rows. -/
abbrev opsTake : List (HloOp τ sig (Elt F)) :=
  [ TRef.nullary (TRef.of (T := ⟨S_, .i32⟩) main_call9_c) (constantI S_ 32 0#32),
    TRef.unary (TRef.of (T := ⟨S_, .i32⟩) main_call9_c) (TRef.of (T := ⟨S64, .i32⟩) main_call9_v0) (broadcastInDim S64 ![] bcast_S_S64),
    TRef.binary (TRef.of (T := ⟨S64, .i32⟩) main_v109) (TRef.of (T := ⟨S64, .i32⟩) main_call9_v0) (TRef.of (T := ⟨S64, .i1⟩) main_call9_v1) (cmpi .slt),
    TRef.nullary (TRef.of (T := ⟨S_, .i32⟩) main_call9_c_0) (constantI S_ 32 8192#32),
    TRef.unary (TRef.of (T := ⟨S_, .i32⟩) main_call9_c_0) (TRef.of (T := ⟨S64, .i32⟩) main_call9_v2) (broadcastInDim S64 ![] bcast_S_S64),
    TRef.binary (TRef.of (T := ⟨S64, .i32⟩) main_v109) (TRef.of (T := ⟨S64, .i32⟩) main_call9_v2) (TRef.of (T := ⟨S64, .i32⟩) main_call9_v3) addi,
    TRef.ternary (TRef.of (T := ⟨S64, .i1⟩) main_call9_v1) (TRef.of (T := ⟨S64, .i32⟩) main_call9_v3) (TRef.of (T := ⟨S64, .i32⟩) main_v109) (TRef.of (T := ⟨S64, .i32⟩) main_call9_v4) select,
    TRef.unary (TRef.of (T := ⟨S64, .i32⟩) main_call9_v4) (TRef.of (T := ⟨S64x1, .i32⟩) main_call9_v5) (broadcastInDim S64x1 ![0] bcast_S64_S64x1_0),
    TRef.nullary (TRef.of (T := ⟨S1, .i32⟩) main_call9_c_1) (constantI S1 32 8191#32),
    TRef.nullary (TRef.of (T := ⟨S_, .i32⟩) main_call9_c_2) (constantI S_ 32 0#32),
    TRef.unary (TRef.of (T := ⟨S_, .i32⟩) main_call9_c_2) (TRef.of (T := ⟨S64x1, .i32⟩) main_call9_v6) (broadcastInDim S64x1 ![] bcast_S_S64x1),
    TRef.binary (TRef.of (T := ⟨S64x1, .i32⟩) main_call9_v5) (TRef.of (T := ⟨S64x1, .i32⟩) main_call9_v6) (TRef.of (T := ⟨S64x1, .i1⟩) main_call9_v7) (cmpi .sge),
    TRef.unary (TRef.of (T := ⟨S1, .i32⟩) main_call9_c_1) (TRef.of (T := ⟨S1x1, .i32⟩) main_call9_v8) (broadcastInDim S1x1 ![1] bcast_S1_S1x1_1),
    TRef.unary (TRef.of (T := ⟨S1x1, .i32⟩) main_call9_v8) (TRef.of (T := ⟨S64x1, .i32⟩) main_call9_v9) (broadcastInDim S64x1 ![0, 1] bcast_S1x1_S64x1_0_1),
    TRef.binary (TRef.of (T := ⟨S64x1, .i32⟩) main_call9_v5) (TRef.of (T := ⟨S64x1, .i32⟩) main_call9_v9) (TRef.of (T := ⟨S64x1, .i1⟩) main_call9_v10) (cmpi .sle),
    TRef.binary (TRef.of (T := ⟨S64x1, .i1⟩) main_call9_v7) (TRef.of (T := ⟨S64x1, .i1⟩) main_call9_v10) (TRef.of (T := ⟨S64x1, .i1⟩) main_call9_v11) andi,
    TRef.nullary (TRef.of (T := ⟨S_, .i1⟩) main_call9_c_3) (constantI S_ 1 1#1),
    TRef.binary (TRef.of (T := ⟨S64x1, .i1⟩) main_call9_v11) (TRef.of (T := ⟨S_, .i1⟩) main_call9_c_3) (TRef.of (T := ⟨S64, .i1⟩) main_call9_v12) (fun x v => Host.reduce IntOp.andi x v reducesTo_S64x1_S64_d1 h_S_),
    TRef.binary (TRef.of (T := ⟨S8192x64, .f32⟩) main_arg9) (TRef.of (T := ⟨S64x1, .i32⟩) main_call9_v5) (TRef.of (T := ⟨S64x64, .f32⟩) main_call9_v13) (fun x i => Host.gather gather_S8192x64_S64x1_S64x64_1_0_n_n_0_1_164 x i),
    TRef.unary (TRef.of (T := ⟨S64, .i1⟩) main_call9_v12) (TRef.of (T := ⟨S64x64, .i1⟩) main_call9_v14) (broadcastInDim S64x64 ![0] bcast_S64_S64x64_0),
    TRef.nullary (TRef.of (T := ⟨S_, .f32⟩) main_call9_cst) (constant S_ .f32 0x7FC00000#32),
    TRef.unary (TRef.of (T := ⟨S_, .f32⟩) main_call9_cst) (TRef.of (T := ⟨S64x64, .f32⟩) main_call9_v15) (broadcastInDim S64x64 ![] bcast_S_S64x64),
    TRef.ternary (TRef.of (T := ⟨S64x64, .i1⟩) main_call9_v14) (TRef.of (T := ⟨S64x64, .f32⟩) main_call9_v13) (TRef.of (T := ⟨S64x64, .f32⟩) main_call9_v15) (TRef.of (T := ⟨S64x64, .f32⟩) main_v110) select ]

/-- The buffers that they write. -/
abbrev writesTake : List (Ref sig .tc) :=
  [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v110]

/-- The operations of the quantized code and the reconstruction. -/
abbrev opsRecon : List (HloOp τ sig (Elt F)) :=
  [ binary main_v110 main_v94 main_v111 (subf : (⟨S64x64, .f32⟩ : BufTy).Contents (Elt F) → (⟨S64x64, .f32⟩ : BufTy).Contents (Elt F) → (⟨S64x64, .f32⟩ : BufTy).Contents (Elt F)),
    binary main_v94 main_v111 main_v112 (addf : (⟨S64x64, .f32⟩ : BufTy).Contents (Elt F) → (⟨S64x64, .f32⟩ : BufTy).Contents (Elt F) → (⟨S64x64, .f32⟩ : BufTy).Contents (Elt F)),
    unary main_arg10 main_v113 ((transpose S64x128 [1, 0] · transposes_S128x64_S64x128_1_0) : (⟨S128x64, .f32⟩ : BufTy).Contents (Elt F) → (⟨S64x128, .f32⟩ : BufTy).Contents (Elt F)),
    binary main_v112 main_v113 main_v114 ((fun l r => Host.dotGeneral dot_S64x64_S64x128_S64x128_1_0_0_1_n_n none l r) : (⟨S64x64, .f32⟩ : BufTy).Contents (Elt F) → (⟨S64x128, .f32⟩ : BufTy).Contents (Elt F) → (⟨S64x128, .f32⟩ : BufTy).Contents (Elt F)),
    unary main_arg11 main_v115 (broadcastInDim S1x128 ![1] bcast_S128_S1x128_1 : (⟨S128, .f32⟩ : BufTy).Contents (Elt F) → (⟨S1x128, .f32⟩ : BufTy).Contents (Elt F)),
    unary main_v115 main_v116 (broadcastInDim S64x128 ![0, 1] bcast_S1x128_S64x128_0_1 : (⟨S1x128, .f32⟩ : BufTy).Contents (Elt F) → (⟨S64x128, .f32⟩ : BufTy).Contents (Elt F)),
    binary main_v114 main_v116 main_v117 (addf : (⟨S64x128, .f32⟩ : BufTy).Contents (Elt F) → (⟨S64x128, .f32⟩ : BufTy).Contents (Elt F) → (⟨S64x128, .f32⟩ : BufTy).Contents (Elt F)) ]

/-- The buffers that they write. -/
abbrev writesRecon : List (Ref sig .tc) :=
  [main_v111, main_v112, main_v113, main_v114, main_v115, main_v116, main_v117]

/-- The operations of the losses, and the results in their final shapes. -/
abbrev opsLosses : List (HloOp τ sig (Elt F)) :=
  [ binary main_v117 main_v2 main_v118 (subf : (⟨S64x128, .f32⟩ : BufTy).Contents (Elt F) → (⟨S64x128, .f32⟩ : BufTy).Contents (Elt F) → (⟨S64x128, .f32⟩ : BufTy).Contents (Elt F)),
    binary main_v118 main_v118 main_v119 (mulf : (⟨S64x128, .f32⟩ : BufTy).Contents (Elt F) → (⟨S64x128, .f32⟩ : BufTy).Contents (Elt F) → (⟨S64x128, .f32⟩ : BufTy).Contents (Elt F)),
    nullary main_cst_9 (constant S_ .f32 0x00000000#32),
    binary main_v119 main_cst_9 main_v120 ((fun x v => Host.reduceAdd x v reducesTo_S64x128_S_d0_1 h_S_) : (⟨S64x128, .f32⟩ : BufTy).Contents (Elt F) → (⟨S_, .f32⟩ : BufTy).Contents (Elt F) → (⟨S_, .f32⟩ : BufTy).Contents (Elt F)),
    nullary main_cst_10 (constant S_ .f32 0x46000000#32),
    binary main_v120 main_cst_10 main_v121 (Host.divf : (⟨S_, .f32⟩ : BufTy).Contents (Elt F) → (⟨S_, .f32⟩ : BufTy).Contents (Elt F) → (⟨S_, .f32⟩ : BufTy).Contents (Elt F)),
    binary main_v110 main_v94 main_v122 (subf : (⟨S64x64, .f32⟩ : BufTy).Contents (Elt F) → (⟨S64x64, .f32⟩ : BufTy).Contents (Elt F) → (⟨S64x64, .f32⟩ : BufTy).Contents (Elt F)),
    binary main_v122 main_v122 main_v123 (mulf : (⟨S64x64, .f32⟩ : BufTy).Contents (Elt F) → (⟨S64x64, .f32⟩ : BufTy).Contents (Elt F) → (⟨S64x64, .f32⟩ : BufTy).Contents (Elt F)),
    nullary main_cst_11 (constant S_ .f32 0x00000000#32),
    binary main_v123 main_cst_11 main_v124 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_12 (constant S_ .f32 0x45800000#32),
    binary main_v124 main_cst_12 main_v125 (Host.divf : (⟨S_, .f32⟩ : BufTy).Contents (Elt F) → (⟨S_, .f32⟩ : BufTy).Contents (Elt F) → (⟨S_, .f32⟩ : BufTy).Contents (Elt F)),
    binary main_v110 main_v94 main_v126 (subf : (⟨S64x64, .f32⟩ : BufTy).Contents (Elt F) → (⟨S64x64, .f32⟩ : BufTy).Contents (Elt F) → (⟨S64x64, .f32⟩ : BufTy).Contents (Elt F)),
    binary main_v126 main_v126 main_v127 (mulf : (⟨S64x64, .f32⟩ : BufTy).Contents (Elt F) → (⟨S64x64, .f32⟩ : BufTy).Contents (Elt F) → (⟨S64x64, .f32⟩ : BufTy).Contents (Elt F)),
    nullary main_cst_13 (constant S_ .f32 0x00000000#32),
    binary main_v127 main_cst_13 main_v128 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_14 (constant S_ .f32 0x45800000#32),
    binary main_v128 main_cst_14 main_v129 (Host.divf : (⟨S_, .f32⟩ : BufTy).Contents (Elt F) → (⟨S_, .f32⟩ : BufTy).Contents (Elt F) → (⟨S_, .f32⟩ : BufTy).Contents (Elt F)),
    nullary main_cst_15 (constant S_ .f32 0x3E800000#32),
    binary main_cst_15 main_v129 main_v130 (mulf : (⟨S_, .f32⟩ : BufTy).Contents (Elt F) → (⟨S_, .f32⟩ : BufTy).Contents (Elt F) → (⟨S_, .f32⟩ : BufTy).Contents (Elt F)),
    binary main_v125 main_v130 main_v131 (addf : (⟨S_, .f32⟩ : BufTy).Contents (Elt F) → (⟨S_, .f32⟩ : BufTy).Contents (Elt F) → (⟨S_, .f32⟩ : BufTy).Contents (Elt F)),
    binary main_v121 main_v131 main_v132 (addf : (⟨S_, .f32⟩ : BufTy).Contents (Elt F) → (⟨S_, .f32⟩ : BufTy).Contents (Elt F) → (⟨S_, .f32⟩ : BufTy).Contents (Elt F)),
    reshape main_v109 main_v133 (rfl : (.i32 : EltTy) = .i32) shapeCasts_S64_S64x1,
    reshape main_v132 main_v134 (rfl : (.f32 : EltTy) = .f32) shapeCasts_S_S1x1,
    reshape main_v121 main_v135 (rfl : (.f32 : EltTy) = .f32) shapeCasts_S_S1x1,
    reshape main_v131 main_v136 (rfl : (.f32 : EltTy) = .f32) shapeCasts_S_S1x1 ]

/-- The buffers that they write. -/
abbrev writesLosses : List (Ref sig .tc) :=
  [main_v118, main_v119, main_cst_9, main_v120, main_cst_10, main_v121, main_v122, main_v123, main_cst_11, main_v124, main_cst_12, main_v125, main_v126, main_v127, main_cst_13, main_v128, main_cst_14, main_v129, main_cst_15, main_v130, main_v131, main_v132, main_v133, main_v134, main_v135, main_v136]

/-- All the operations, in order. -/
abbrev ops : List (HloOp τ sig (Elt F)) :=
  (opsMean ++ opsConv1 ++ opsConv2 ++ opsConv3a) ++ (opsConv3b ++ opsConv4 ++ opsPool ++ opsDist)
    ++ (opsArgmin ++ opsTake ++ opsRecon ++ opsLosses)

set_option maxHeartbeats 4000000 in
/-- The first part of the program runs the first four groups. -/
theorem part0_eq (c : Dev nD) : main_part0 (F := F) c = seq (opsMean ++ opsConv1 ++ opsConv2 ++ opsConv3a) := rfl

set_option maxHeartbeats 4000000 in
/-- The second part runs the next four. -/
theorem part1_eq (c : Dev nD) : main_part1 (F := F) c = seq (opsConv3b ++ opsConv4 ++ opsPool ++ opsDist) := rfl

set_option maxHeartbeats 4000000 in
/-- The third part runs the last four. -/
theorem part2_eq (c : Dev nD) : main_part2 (F := F) c = seq (opsArgmin ++ opsTake ++ opsRecon ++ opsLosses) := rfl

/-- The reference is the line of these operations. -/
theorem main_eq (c : Dev nD) : main (F := F) c = seq ops := by
  rw [ops, seq_append, seq_append, ← part0_eq c, ← part1_eq c, ← part2_eq c]
  rfl

/-- The program has no scoped buffers. -/
theorem scopedRefs_eq : (Finset.univ.filter fun b : Ref sig .tc => b.isScoped) = ∅ := by decide

/-- The program has no scoped semaphores. -/
theorem scopedSems_eq : (Finset.univ.filter fun sm : SemLoc sig => sm.isScoped .tc) = ∅ := by decide

/-- The operations of `opsMean` use buffers of the program. -/
theorem subMean : (opsMean : List (HloOp τ sig (Elt F))).Forall fun op => op.bufs ⊆ tcRefs τ sig :=
  ⟨nullary_bufs_sub .., binary_bufs_sub .., nullary_bufs_sub .., unary_bufs_sub .., binary_bufs_sub ..,
    unary_bufs_sub ..⟩

/-- The operations of `opsMean` make no fresh buffer. -/
theorem freshMean : (opsMean : List (HloOp τ sig (Elt F))).Forall fun op => op.fresh = ∅ :=
  forall_fresh_of_map rfl

/-- The operations of `opsMean` keep what they do not write. -/
theorem keepMean (V : Valuation τ sig (Elt F)) (r : Ref sig .tc) (h : r ∉ writesMean) :
    after opsMean V (Proc.devRef .tc r) = V (Proc.devRef .tc r) :=
  after_of_writes_sub opsMean V (forall_writes_sub_of_map rfl) h

/-- The operations of `opsConv1` use buffers of the program. -/
theorem subConv1 : (opsConv1 : List (HloOp τ sig (Elt F))).Forall fun op => op.bufs ⊆ tcRefs τ sig :=
  ⟨nullary_bufs_sub .., unary_bufs_sub .., binary_bufs_sub .., unary_bufs_sub .., reshape_bufs_sub ..,
    unary_bufs_sub .., binary_bufs_sub .., unary_bufs_sub .., unary_bufs_sub .., reshape_bufs_sub .., unary_bufs_sub
    .., binary_bufs_sub .., unary_bufs_sub .., unary_bufs_sub .., reshape_bufs_sub .., unary_bufs_sub ..,
    binary_bufs_sub .., unary_bufs_sub .., binary_bufs_sub .., binary_bufs_sub .., unary_bufs_sub .., unary_bufs_sub
    .., binary_bufs_sub .., nullary_bufs_sub .., unary_bufs_sub .., binary_bufs_sub ..⟩

/-- The operations of `opsConv1` make no fresh buffer. -/
theorem freshConv1 : (opsConv1 : List (HloOp τ sig (Elt F))).Forall fun op => op.fresh = ∅ :=
  forall_fresh_of_map rfl

/-- The operations of `opsConv1` keep what they do not write. -/
theorem keepConv1 (V : Valuation τ sig (Elt F)) (r : Ref sig .tc) (h : r ∉ writesConv1) :
    after opsConv1 V (Proc.devRef .tc r) = V (Proc.devRef .tc r) :=
  after_of_writes_sub opsConv1 V (forall_writes_sub_of_map rfl) h

/-- The operations of `opsConv2` use buffers of the program. -/
theorem subConv2 : (opsConv2 : List (HloOp τ sig (Elt F))).Forall fun op => op.bufs ⊆ tcRefs τ sig :=
  ⟨nullary_bufs_sub .., unary_bufs_sub .., binary_bufs_sub .., unary_bufs_sub .., reshape_bufs_sub ..,
    unary_bufs_sub .., binary_bufs_sub .., unary_bufs_sub .., unary_bufs_sub .., reshape_bufs_sub .., unary_bufs_sub
    .., binary_bufs_sub .., unary_bufs_sub .., unary_bufs_sub .., reshape_bufs_sub .., unary_bufs_sub ..,
    binary_bufs_sub .., unary_bufs_sub .., binary_bufs_sub .., binary_bufs_sub .., unary_bufs_sub .., unary_bufs_sub
    .., binary_bufs_sub .., nullary_bufs_sub .., unary_bufs_sub .., binary_bufs_sub ..⟩

/-- The operations of `opsConv2` make no fresh buffer. -/
theorem freshConv2 : (opsConv2 : List (HloOp τ sig (Elt F))).Forall fun op => op.fresh = ∅ :=
  forall_fresh_of_map rfl

/-- The operations of `opsConv2` keep what they do not write. -/
theorem keepConv2 (V : Valuation τ sig (Elt F)) (r : Ref sig .tc) (h : r ∉ writesConv2) :
    after opsConv2 V (Proc.devRef .tc r) = V (Proc.devRef .tc r) :=
  after_of_writes_sub opsConv2 V (forall_writes_sub_of_map rfl) h

/-- The operations of `opsConv3a` use buffers of the program. -/
theorem subConv3a : (opsConv3a : List (HloOp τ sig (Elt F))).Forall fun op => op.bufs ⊆ tcRefs τ sig :=
  ⟨nullary_bufs_sub .., unary_bufs_sub .., binary_bufs_sub .., unary_bufs_sub .., reshape_bufs_sub ..,
    unary_bufs_sub .., binary_bufs_sub .., unary_bufs_sub .., unary_bufs_sub ..⟩

/-- The operations of `opsConv3a` make no fresh buffer. -/
theorem freshConv3a : (opsConv3a : List (HloOp τ sig (Elt F))).Forall fun op => op.fresh = ∅ :=
  forall_fresh_of_map rfl

/-- The operations of `opsConv3a` keep what they do not write. -/
theorem keepConv3a (V : Valuation τ sig (Elt F)) (r : Ref sig .tc) (h : r ∉ writesConv3a) :
    after opsConv3a V (Proc.devRef .tc r) = V (Proc.devRef .tc r) :=
  after_of_writes_sub opsConv3a V (forall_writes_sub_of_map rfl) h

/-- The operations of `opsConv3b` use buffers of the program. -/
theorem subConv3b : (opsConv3b : List (HloOp τ sig (Elt F))).Forall fun op => op.bufs ⊆ tcRefs τ sig :=
  ⟨reshape_bufs_sub .., unary_bufs_sub .., binary_bufs_sub .., unary_bufs_sub .., unary_bufs_sub ..,
    reshape_bufs_sub .., unary_bufs_sub .., binary_bufs_sub .., unary_bufs_sub .., binary_bufs_sub ..,
    binary_bufs_sub .., unary_bufs_sub .., unary_bufs_sub .., binary_bufs_sub .., nullary_bufs_sub ..,
    unary_bufs_sub .., binary_bufs_sub ..⟩

/-- The operations of `opsConv3b` make no fresh buffer. -/
theorem freshConv3b : (opsConv3b : List (HloOp τ sig (Elt F))).Forall fun op => op.fresh = ∅ :=
  forall_fresh_of_map rfl

/-- The operations of `opsConv3b` keep what they do not write. -/
theorem keepConv3b (V : Valuation τ sig (Elt F)) (r : Ref sig .tc) (h : r ∉ writesConv3b) :
    after opsConv3b V (Proc.devRef .tc r) = V (Proc.devRef .tc r) :=
  after_of_writes_sub opsConv3b V (forall_writes_sub_of_map rfl) h

/-- The operations of `opsConv4` use buffers of the program. -/
theorem subConv4 : (opsConv4 : List (HloOp τ sig (Elt F))).Forall fun op => op.bufs ⊆ tcRefs τ sig :=
  ⟨nullary_bufs_sub .., unary_bufs_sub .., binary_bufs_sub .., unary_bufs_sub .., reshape_bufs_sub ..,
    unary_bufs_sub .., binary_bufs_sub .., unary_bufs_sub .., unary_bufs_sub .., reshape_bufs_sub .., unary_bufs_sub
    .., binary_bufs_sub .., unary_bufs_sub .., unary_bufs_sub .., reshape_bufs_sub .., unary_bufs_sub ..,
    binary_bufs_sub .., unary_bufs_sub .., binary_bufs_sub .., binary_bufs_sub .., unary_bufs_sub .., unary_bufs_sub
    .., binary_bufs_sub .., nullary_bufs_sub .., unary_bufs_sub .., binary_bufs_sub ..⟩

/-- The operations of `opsConv4` make no fresh buffer. -/
theorem freshConv4 : (opsConv4 : List (HloOp τ sig (Elt F))).Forall fun op => op.fresh = ∅ :=
  forall_fresh_of_map rfl

/-- The operations of `opsConv4` keep what they do not write. -/
theorem keepConv4 (V : Valuation τ sig (Elt F)) (r : Ref sig .tc) (h : r ∉ writesConv4) :
    after opsConv4 V (Proc.devRef .tc r) = V (Proc.devRef .tc r) :=
  after_of_writes_sub opsConv4 V (forall_writes_sub_of_map rfl) h

/-- The operations of `opsPool` use buffers of the program. -/
theorem subPool : (opsPool : List (HloOp τ sig (Elt F))).Forall fun op => op.bufs ⊆ tcRefs τ sig :=
  ⟨nullary_bufs_sub .., binary_bufs_sub .., nullary_bufs_sub .., unary_bufs_sub .., binary_bufs_sub ..⟩

/-- The operations of `opsPool` make no fresh buffer. -/
theorem freshPool : (opsPool : List (HloOp τ sig (Elt F))).Forall fun op => op.fresh = ∅ :=
  forall_fresh_of_map rfl

/-- The operations of `opsPool` keep what they do not write. -/
theorem keepPool (V : Valuation τ sig (Elt F)) (r : Ref sig .tc) (h : r ∉ writesPool) :
    after opsPool V (Proc.devRef .tc r) = V (Proc.devRef .tc r) :=
  after_of_writes_sub opsPool V (forall_writes_sub_of_map rfl) h

/-- The operations of `opsDist` use buffers of the program. -/
theorem subDist : (opsDist : List (HloOp τ sig (Elt F))).Forall fun op => op.bufs ⊆ tcRefs τ sig :=
  ⟨binary_bufs_sub .., nullary_bufs_sub .., binary_bufs_sub .., unary_bufs_sub .., nullary_bufs_sub ..,
    unary_bufs_sub .., binary_bufs_sub .., unary_bufs_sub .., binary_bufs_sub .., unary_bufs_sub .., binary_bufs_sub
    .., binary_bufs_sub .., nullary_bufs_sub .., binary_bufs_sub .., unary_bufs_sub .., unary_bufs_sub ..,
    binary_bufs_sub ..⟩

/-- The operations of `opsDist` make no fresh buffer. -/
theorem freshDist : (opsDist : List (HloOp τ sig (Elt F))).Forall fun op => op.fresh = ∅ :=
  forall_fresh_of_map rfl

/-- The operations of `opsDist` keep what they do not write. -/
theorem keepDist (V : Valuation τ sig (Elt F)) (r : Ref sig .tc) (h : r ∉ writesDist) :
    after opsDist V (Proc.devRef .tc r) = V (Proc.devRef .tc r) :=
  after_of_writes_sub opsDist V (forall_writes_sub_of_map rfl) h

/-- The operations of `opsArgmin` use buffers of the program. -/
theorem subArgmin : (opsArgmin : List (HloOp τ sig (Elt F))).Forall fun op => op.bufs ⊆ tcRefs τ sig :=
  ⟨nullary_bufs_sub .., nullary_bufs_sub .., nullary_bufs_sub .., quaternary_bufs_sub .., quaternary_bufs_sub ..⟩

/-- The operations of `opsArgmin` make no fresh buffer. -/
theorem freshArgmin : (opsArgmin : List (HloOp τ sig (Elt F))).Forall fun op => op.fresh = ∅ :=
  forall_fresh_of_map rfl

/-- The operations of `opsArgmin` keep what they do not write. -/
theorem keepArgmin (V : Valuation τ sig (Elt F)) (r : Ref sig .tc) (h : r ∉ writesArgmin) :
    after opsArgmin V (Proc.devRef .tc r) = V (Proc.devRef .tc r) :=
  after_of_writes_sub opsArgmin V (forall_writes_sub_of_map rfl) h

/-- The operations of `opsTake` use buffers of the program. -/
theorem subTake : (opsTake : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub
    .., nullary_bufs_sub .., binary_bufs_sub .., binary_bufs_sub .., unary_bufs_sub .., nullary_bufs_sub ..,
    unary_bufs_sub .., ternary_bufs_sub ..⟩

/-- The operations of `opsTake` make no fresh buffer. -/
theorem freshTake : (opsTake : List (HloOp τ sig (Elt F))).Forall fun op => op.fresh = ∅ :=
  forall_fresh_of_map rfl

/-- The operations of `opsTake` keep what they do not write. -/
theorem keepTake (V : Valuation τ sig (Elt F)) (r : Ref sig .tc) (h : r ∉ writesTake) :
    after opsTake V (Proc.devRef .tc r) = V (Proc.devRef .tc r) :=
  after_of_writes_sub opsTake V (forall_writes_sub_of_map rfl) h

/-- The operations of `opsRecon` use buffers of the program. -/
theorem subRecon : (opsRecon : List (HloOp τ sig (Elt F))).Forall fun op => op.bufs ⊆ tcRefs τ sig :=
  ⟨binary_bufs_sub .., binary_bufs_sub .., unary_bufs_sub .., binary_bufs_sub .., unary_bufs_sub .., unary_bufs_sub
    .., binary_bufs_sub ..⟩

/-- The operations of `opsRecon` make no fresh buffer. -/
theorem freshRecon : (opsRecon : List (HloOp τ sig (Elt F))).Forall fun op => op.fresh = ∅ :=
  forall_fresh_of_map rfl

/-- The operations of `opsRecon` keep what they do not write. -/
theorem keepRecon (V : Valuation τ sig (Elt F)) (r : Ref sig .tc) (h : r ∉ writesRecon) :
    after opsRecon V (Proc.devRef .tc r) = V (Proc.devRef .tc r) :=
  after_of_writes_sub opsRecon V (forall_writes_sub_of_map rfl) h

/-- The operations of `opsLosses` use buffers of the program. -/
theorem subLosses : (opsLosses : List (HloOp τ sig (Elt F))).Forall fun op => op.bufs ⊆ tcRefs τ sig :=
  ⟨binary_bufs_sub .., binary_bufs_sub .., nullary_bufs_sub .., binary_bufs_sub .., nullary_bufs_sub ..,
    binary_bufs_sub .., binary_bufs_sub .., binary_bufs_sub .., nullary_bufs_sub .., binary_bufs_sub ..,
    nullary_bufs_sub .., binary_bufs_sub .., binary_bufs_sub .., binary_bufs_sub .., nullary_bufs_sub ..,
    binary_bufs_sub .., nullary_bufs_sub .., binary_bufs_sub .., nullary_bufs_sub .., binary_bufs_sub ..,
    binary_bufs_sub .., binary_bufs_sub .., reshape_bufs_sub .., reshape_bufs_sub .., reshape_bufs_sub ..,
    reshape_bufs_sub ..⟩

/-- The operations of `opsLosses` make no fresh buffer. -/
theorem freshLosses : (opsLosses : List (HloOp τ sig (Elt F))).Forall fun op => op.fresh = ∅ :=
  forall_fresh_of_map rfl

/-- The operations of `opsLosses` keep what they do not write. -/
theorem keepLosses (V : Valuation τ sig (Elt F)) (r : Ref sig .tc) (h : r ∉ writesLosses) :
    after opsLosses V (Proc.devRef .tc r) = V (Proc.devRef .tc r) :=
  after_of_writes_sub opsLosses V (forall_writes_sub_of_map rfl) h

/-- Lines of operations of a property, one after the other. -/
theorem forall_append {α : Type*} {p : α → Prop} {l l' : List α} (h : l.Forall p) (h' : l'.Forall p) :
    (l ++ l').Forall p :=
  List.forall_iff_forall_mem.2 fun x hx => (List.mem_append.1 hx).elim (List.forall_iff_forall_mem.1 h x)
    (List.forall_iff_forall_mem.1 h' x)

/-- All operations use buffers of the program. -/
theorem ops_sub : (ops : List (HloOp τ sig (Elt F))).Forall fun op => op.bufs ⊆ tcRefs τ sig :=
  forall_append (forall_append
    (forall_append (forall_append (forall_append subMean subConv1) subConv2) subConv3a)
    (forall_append (forall_append (forall_append subConv3b subConv4) subPool) subDist))
    (forall_append (forall_append (forall_append subArgmin subTake) subRecon) subLosses)

/-- No operation makes a fresh buffer. -/
theorem ops_fresh : (ops : List (HloOp τ sig (Elt F))).Forall fun op => op.fresh = ∅ :=
  forall_append (forall_append
    (forall_append (forall_append (forall_append freshMean freshConv1) freshConv2) freshConv3a)
    (forall_append (forall_append (forall_append freshConv3b freshConv4) freshPool) freshDist))
    (forall_append (forall_append (forall_append freshArgmin freshTake) freshRecon) freshLosses)

variable (m : (ℓ : Loc nD τ sig) → Buf (Elt F) ℓ) (ρ : Dev nD → PrngReg)

/-- Every buffer ends with what the line of operations leaves in it. -/
theorem run : θ_run defs (onTc (τ := τ) (main (F := F))) ⟨m, fun _ => 0, ρ⟩ fun r => ∀ (d : Dev nD) (b : Ref sig .tc),
    r.2.mem ((d.tc : Thread nD τ).loc b) = after ops (launchContents m d) (Proc.devRef .tc b) :=
  run_seq scopedRefs_eq scopedSems_eq defs main (fun _ => ops) main_eq (fun _ => ops_sub) m ρ
    fun _ => List.forall_iff_forall_mem.1 ops_fresh

end Cert.VQ.Ref

end
-- ==== Proof.RefStages.lean ====
/-
  The stages of the reference, and that its operations compute them from the buffers they read.
-/
module

public import proofs.«01_k».proof.Proof.RefRun
public import proofs.«01_k».proof.Proof.Spec

@[expose] public section

set_option maxRecDepth 16384

noncomputable section

namespace Cert.VQ.Ref

open Cert.ReferenceIdeal Cert.ReferenceIdeal.Gen Idealize.ShloMosaic Idealize.ShloMosaic.TcCoe Idealize.SL.Sem
  Idealize.ShloMosaic.StableHlo

/-! ## The stages -/

/-- The constant `w` as a scalar. -/
abbrev scalar (w : BitVec 32) : FVec Ideal S_ .f32 := constant S_ .f32 w

/-- The band means. -/
def means (x : FVec Ideal S64x128x64x64 .f32) : FVec Ideal S64x128 .f32 :=
  Host.divf (Host.reduceAdd x (scalar 0x00000000#32) reducesTo_S64x128x64x64_S64x128_d3_2 h_S_)
    (broadcastInDim S64x128 ![] bcast_S_S64x128 (scalar 0x45800000#32))

/-- The input of the first layer: one channel. -/
def channel (p : FVec Ideal S64x128 .f32) : FVec Ideal S64x1x128 .f32 :=
  broadcastInDim S64x1x128 ![0, 2] bcast_S64x128_S64x1x128_0_2 p

/-- The sum of the three taps, the bias, and the rectifier. -/
def activate (y0 y1 y2 : FVec Ideal S64x128x64 .f32) (b : FVec Ideal S64 .f32) : FVec Ideal S64x64x128 .f32 :=
  maximumf (addf (addf (addf (transpose S64x64x128 [0, 2, 1] y0 transposes_S64x128x64_S64x64x128_0_2_1)
      (transpose S64x64x128 [0, 2, 1] y1 transposes_S64x128x64_S64x64x128_0_2_1))
      (transpose S64x64x128 [0, 2, 1] y2 transposes_S64x128x64_S64x64x128_0_2_1))
      (broadcastInDim S64x64x128 ![0, 1, 2] bcast_S1x64x1_S64x64x128_0_1_2
        (broadcastInDim S1x64x1 ![1] bcast_S64_S1x64x1_1 b)))
    (broadcastInDim S64x64x128 ![] bcast_S_S64x64x128 (scalar 0x00000000#32))

/-- One channel, padded with a zero band on either side. -/
def padded1 (z : FVec Ideal S64x1x128 .f32) : FVec Ideal S64x1x130 .f32 :=
  pad S64x1x130 ![0, 0, 1] ![0, 0, 1] ![0, 0, 0] z (sitofp .f32 (constantI S_ 32 0#32))
    pads_S64x1x128_S64x1x130_000_000_110 h_S_

/-- The first layer. -/
def layer1 (z : FVec Ideal S64x1x128 .f32) (W : FVec Ideal S64x1x3 .f32) (b : FVec Ideal S64 .f32) :
    FVec Ideal S64x64x128 .f32 :=
  activate
    (Host.dotGeneral (φ₁ := .f32) (φ₂ := .f32) dot_S64x1x128_S64x1_S64x128x64_1_1_02_0_n_n none
      (extractStridedSlice S64x1x128 ![0, 0, 0] (padded1 z) slices_S64x1x130_S64x1x128_0_0_0)
      (shapeCast S64x1 (extractStridedSlice S64x1x1 ![0, 0, 0] W slices_S64x1x3_S64x1x1_0_0_0) shapeCasts_S64x1x1_S64x1))
    (Host.dotGeneral (φ₁ := .f32) (φ₂ := .f32) dot_S64x1x128_S64x1_S64x128x64_1_1_02_0_n_n none
      (extractStridedSlice S64x1x128 ![0, 0, 1] (padded1 z) slices_S64x1x130_S64x1x128_0_0_1)
      (shapeCast S64x1 (extractStridedSlice S64x1x1 ![0, 0, 1] W slices_S64x1x3_S64x1x1_0_0_1) shapeCasts_S64x1x1_S64x1))
    (Host.dotGeneral (φ₁ := .f32) (φ₂ := .f32) dot_S64x1x128_S64x1_S64x128x64_1_1_02_0_n_n none
      (extractStridedSlice S64x1x128 ![0, 0, 2] (padded1 z) slices_S64x1x130_S64x1x128_0_0_2)
      (shapeCast S64x1 (extractStridedSlice S64x1x1 ![0, 0, 2] W slices_S64x1x3_S64x1x1_0_0_2) shapeCasts_S64x1x1_S64x1))
    b

/-- 64 channels, padded with a zero band on either side. -/
def padded (z : FVec Ideal S64x64x128 .f32) : FVec Ideal S64x64x130 .f32 :=
  pad S64x64x130 ![0, 0, 1] ![0, 0, 1] ![0, 0, 0] z (sitofp .f32 (constantI S_ 32 0#32))
    pads_S64x64x128_S64x64x130_000_000_110 h_S_

/-- A later layer. -/
def layer (z : FVec Ideal S64x64x128 .f32) (W : FVec Ideal S64x64x3 .f32) (b : FVec Ideal S64 .f32) :
    FVec Ideal S64x64x128 .f32 :=
  activate
    (Host.dotGeneral (φ₁ := .f32) (φ₂ := .f32) dot_S64x64x128_S64x64_S64x128x64_1_1_02_0_n_n none
      (extractStridedSlice S64x64x128 ![0, 0, 0] (padded z) slices_S64x64x130_S64x64x128_0_0_0)
      (shapeCast S64x64 (extractStridedSlice S64x64x1 ![0, 0, 0] W slices_S64x64x3_S64x64x1_0_0_0) shapeCasts_S64x64x1_S64x64))
    (Host.dotGeneral (φ₁ := .f32) (φ₂ := .f32) dot_S64x64x128_S64x64_S64x128x64_1_1_02_0_n_n none
      (extractStridedSlice S64x64x128 ![0, 0, 1] (padded z) slices_S64x64x130_S64x64x128_0_0_1)
      (shapeCast S64x64 (extractStridedSlice S64x64x1 ![0, 0, 1] W slices_S64x64x3_S64x64x1_0_0_1) shapeCasts_S64x64x1_S64x64))
    (Host.dotGeneral (φ₁ := .f32) (φ₂ := .f32) dot_S64x64x128_S64x64_S64x128x64_1_1_02_0_n_n none
      (extractStridedSlice S64x64x128 ![0, 0, 2] (padded z) slices_S64x64x130_S64x64x128_0_0_2)
      (shapeCast S64x64 (extractStridedSlice S64x64x1 ![0, 0, 2] W slices_S64x64x3_S64x64x1_0_0_2) shapeCasts_S64x64x1_S64x64))
    b

/-- The mean of the features over the bands. -/
def pooled (h : FVec Ideal S64x64x128 .f32) : FVec Ideal S64x64 .f32 :=
  Host.divf (Host.reduceAdd h (scalar 0x00000000#32) reducesTo_S64x64x128_S64x64_d2 h_S_)
    (broadcastInDim S64x64 ![] bcast_S_S64x64 (scalar 0x43000000#32))

/-- The squared distances of the codes to the codebook's rows. -/
def distances (z : FVec Ideal S64x64 .f32) (cb : FVec Ideal S8192x64 .f32) : FVec Ideal S64x8192 .f32 :=
  addf (subf
      (broadcastInDim S64x8192 ![0, 1] bcast_S64x1_S64x8192_0_1 (broadcastInDim S64x1 ![0] bcast_S64_S64x1_0
        (Host.reduceAdd (mulf z z) (scalar 0x00000000#32) reducesTo_S64x64_S64_d1 h_S_)))
      (Host.dotGeneral (φ₁ := .f32) (φ₂ := .f32) dot_S64x64_S64x8192_S64x8192_1_0_0_1_n_n none
        (mulf (broadcastInDim S64x64 ![] bcast_S_S64x64 (scalar 0x40000000#32)) z)
        (transpose S64x8192 [1, 0] cb transposes_S8192x64_S64x8192_1_0)))
    (broadcastInDim S64x8192 ![0, 1] bcast_S1x8192_S64x8192_0_1 (broadcastInDim S1x8192 ![1] bcast_S8192_S1x8192_1
      (Host.reduceAdd (mulf cb cb) (scalar 0x00000000#32) reducesTo_S8192x64_S8192_d1 h_S_)))

/-- The indices of the least distances. -/
def chosen (d : FVec Ideal S64x8192 .f32) : Vec Ideal S64 .i32 := fun j =>
  (Host.argReduce (F := Ideal) reducer_argmin_f32_i32 d (iotaInDim S64x8192 32 1) (scalar 0x7F800000#32)
    (constantI S_ 32 0#32) reducesTo_S64x8192_S64_d1 h_S_ j).2

/-- The indices, counted from the end where negative, as one column. -/
def wrapped (i : Vec Ideal S64 .i32) : Vec Ideal S64x1 .i32 :=
  broadcastInDim S64x1 ![0] bcast_S64_S64x1_0
    (select (cmpi .slt i (broadcastInDim S64 ![] bcast_S_S64 (constantI S_ 32 0#32)))
      (addi i (broadcastInDim S64 ![] bcast_S_S64 (constantI S_ 32 8192#32))) i)

/-- Which indices lie in the codebook. -/
def inside (i : Vec Ideal S64x1 .i32) : Vec Ideal S64 .i1 :=
  Host.reduce IntOp.andi
    (andi (cmpi .sge i (broadcastInDim S64x1 ![] bcast_S_S64x1 (constantI S_ 32 0#32)))
      (cmpi .sle i (broadcastInDim S64x1 ![0, 1] bcast_S1x1_S64x1_0_1
        (broadcastInDim S1x1 ![1] bcast_S1_S1x1_1 (constantI S1 32 8191#32)))))
    (constantI S_ 1 1#1) reducesTo_S64x1_S64_d1 h_S_

/-- The codebook's rows at the indices. -/
def taken (cb : FVec Ideal S8192x64 .f32) (i : Vec Ideal S64 .i32) : FVec Ideal S64x64 .f32 :=
  select (broadcastInDim S64x64 ![0] bcast_S64_S64x64_0 (inside (wrapped i)))
    (Host.gather gather_S8192x64_S64x1_S64x64_1_0_n_n_0_1_164 cb (wrapped i))
    (broadcastInDim S64x64 ![] bcast_S_S64x64 (scalar 0x7FC00000#32))

/-- The quantized code, reached from the code. -/
def straight (z q : FVec Ideal S64x64 .f32) : FVec Ideal S64x64 .f32 := addf z (subf q z)

/-- The reconstruction. -/
def decoded (q : FVec Ideal S64x64 .f32) (Wd : FVec Ideal S128x64 .f32) (bd : FVec Ideal S128 .f32) :
    FVec Ideal S64x128 .f32 :=
  addf (Host.dotGeneral (φ₁ := .f32) (φ₂ := .f32) dot_S64x64_S64x128_S64x128_1_0_0_1_n_n none q
      (transpose S64x128 [1, 0] Wd transposes_S128x64_S64x128_1_0))
    (broadcastInDim S64x128 ![0, 1] bcast_S1x128_S64x128_0_1 (broadcastInDim S1x128 ![1] bcast_S128_S1x128_1 bd))

/-- The reconstruction loss. -/
def lossR (r p : FVec Ideal S64x128 .f32) : FVec Ideal S_ .f32 :=
  Host.divf (Host.reduceAdd (mulf (subf r p) (subf r p)) (scalar 0x00000000#32) reducesTo_S64x128_S_d0_1 h_S_)
    (scalar 0x46000000#32)

/-- The mean squared difference of the rows and the codes. -/
def meanSq (q z : FVec Ideal S64x64 .f32) : FVec Ideal S_ .f32 :=
  Host.divf (Host.reduceAdd (mulf (subf q z) (subf q z)) (scalar 0x00000000#32) reducesTo_S64x64_S_d0_1 h_S_)
    (scalar 0x45800000#32)

/-- The quantization loss. -/
def lossQ (q z : FVec Ideal S64x64 .f32) : FVec Ideal S_ .f32 :=
  addf (meanSq q z) (mulf (scalar 0x3E800000#32) (meanSq q z))

/-! ## The operations compute the stages -/

variable (V : Valuation τ sig (Elt Ideal))

set_option maxHeartbeats 4000000

/-- The first group computes the means. -/
theorem mean_means : after (opsMean (F := Ideal)) V (Proc.devRef .tc main_v2) = means (V (Proc.devRef .tc main_arg0)) := by
  after_results_simp
  rfl

/-- The first group lays the means out as one channel. -/
theorem mean_channel : after (opsMean (F := Ideal)) V (Proc.devRef .tc main_v3) = channel (means (V (Proc.devRef .tc main_arg0))) := by
  after_results_simp
  rfl

/-- The second group is the first layer. -/
theorem conv1_layer : after (opsConv1 (F := Ideal)) V (Proc.devRef .tc main_v25)
    = layer1 (V (Proc.devRef .tc main_v3)) (V (Proc.devRef .tc main_arg1)) (V (Proc.devRef .tc main_arg2)) := by
  simp only [opsConv1, TRef.binary, TRef.nullary, TRef.unary, TRef.toBuf, TRef.ofBuf, cast_eq]
  after_results_simp
  rfl

/-- The next group is the second layer. -/
theorem conv2_layer : after (opsConv2 (F := Ideal)) V (Proc.devRef .tc main_v47)
    = layer (V (Proc.devRef .tc main_v25)) (V (Proc.devRef .tc main_arg3)) (V (Proc.devRef .tc main_arg4)) := by
  simp only [opsConv2, TRef.binary, TRef.nullary, TRef.unary, TRef.toBuf, TRef.ofBuf, cast_eq]
  after_results_simp
  rfl

/-- The next two groups are the third layer. -/
theorem conv3_layer : after (opsConv3b (F := Ideal)) (after (opsConv3a (F := Ideal)) V) (Proc.devRef .tc main_v69)
    = layer (V (Proc.devRef .tc main_v47)) (V (Proc.devRef .tc main_arg5)) (V (Proc.devRef .tc main_arg6)) := by
  simp only [opsConv3a, opsConv3b, TRef.binary, TRef.nullary, TRef.unary, TRef.toBuf, TRef.ofBuf, cast_eq]
  after_results_simp
  rfl

/-- The next group is the fourth layer. -/
theorem conv4_layer : after (opsConv4 (F := Ideal)) V (Proc.devRef .tc main_v91)
    = layer (V (Proc.devRef .tc main_v69)) (V (Proc.devRef .tc main_arg7)) (V (Proc.devRef .tc main_arg8)) := by
  simp only [opsConv4, TRef.binary, TRef.nullary, TRef.unary, TRef.toBuf, TRef.ofBuf, cast_eq]
  after_results_simp
  rfl

/-- The next group is the mean over the bands. -/
theorem pool_pooled : after (opsPool (F := Ideal)) V (Proc.devRef .tc main_v94) = pooled (V (Proc.devRef .tc main_v91)) := by
  after_results_simp
  rfl

/-- The next group computes the distances. -/
theorem dist_distances : after (opsDist (F := Ideal)) V (Proc.devRef .tc main_v108)
    = distances (V (Proc.devRef .tc main_v94)) (V (Proc.devRef .tc main_arg9)) := by
  after_results_simp
  rfl

/-- The next group computes the indices. -/
theorem argmin_chosen : after (opsArgmin (F := Ideal)) V (Proc.devRef .tc main_v109) = chosen (V (Proc.devRef .tc main_v108)) := by
  simp only [opsArgmin, TRef.quaternary, TRef.nullary, TRef.unary, TRef.toBuf, TRef.ofBuf, cast_eq]
  after_results_simp
  rfl

/-- The next group takes the rows. -/
theorem take_taken : after (opsTake (F := Ideal)) V (Proc.devRef .tc main_v110)
    = taken (V (Proc.devRef .tc main_arg9)) (V (Proc.devRef .tc main_v109)) := by
  simp only [opsTake, TRef.binary, TRef.nullary, TRef.unary, TRef.ternary, TRef.toBuf, TRef.ofBuf, cast_eq]
  after_results_simp
  rfl

/-- The next group computes the quantized codes. -/
theorem recon_straight : after (opsRecon (F := Ideal)) V (Proc.devRef .tc main_v112)
    = straight (V (Proc.devRef .tc main_v94)) (V (Proc.devRef .tc main_v110)) := by
  after_results_simp
  rfl

/-- The same group computes the reconstruction. -/
theorem recon_decoded : after (opsRecon (F := Ideal)) V (Proc.devRef .tc main_v117)
    = decoded (straight (V (Proc.devRef .tc main_v94)) (V (Proc.devRef .tc main_v110)))
        (V (Proc.devRef .tc main_arg10)) (V (Proc.devRef .tc main_arg11)) := by
  after_results_simp
  rfl

/-- The last group lays the indices out as a column. -/
theorem losses_index : after (opsLosses (F := Ideal)) V (Proc.devRef .tc main_v133)
    = shapeCast S64x1 (V (Proc.devRef .tc main_v109)) shapeCasts_S64_S64x1 := by
  after_results_simp
  rfl

/-- The last group computes the loss. -/
theorem losses_loss : after (opsLosses (F := Ideal)) V (Proc.devRef .tc main_v134)
    = shapeCast S1x1 (addf (lossR (V (Proc.devRef .tc main_v117)) (V (Proc.devRef .tc main_v2)))
        (lossQ (V (Proc.devRef .tc main_v110)) (V (Proc.devRef .tc main_v94)))) shapeCasts_S_S1x1 := by
  after_results_simp
  rfl

/-- The last group computes the reconstruction loss. -/
theorem losses_recon : after (opsLosses (F := Ideal)) V (Proc.devRef .tc main_v135)
    = shapeCast S1x1 (lossR (V (Proc.devRef .tc main_v117)) (V (Proc.devRef .tc main_v2))) shapeCasts_S_S1x1 := by
  after_results_simp
  rfl

/-- The last group computes the quantization loss. -/
theorem losses_quant : after (opsLosses (F := Ideal)) V (Proc.devRef .tc main_v136)
    = shapeCast S1x1 (lossQ (V (Proc.devRef .tc main_v110)) (V (Proc.devRef .tc main_v94))) shapeCasts_S_S1x1 := by
  after_results_simp
  rfl

end Cert.VQ.Ref

end
-- ==== Proof.RefValue.lean ====
/-
  The stages of the reference, entry by entry, in the terms of the specification.
-/
module

public import proofs.«01_k».proof.Proof.RefStages
public import Idealize.ShloMosaic.Lib.Routing.Ops

@[expose] public section

set_option maxRecDepth 16384

noncomputable section

namespace Cert.VQ.Ref

open Cert.ReferenceIdeal Cert.ReferenceIdeal.Gen Idealize.ShloMosaic

/-- An index of the codebook, as a word, is that number. -/
theorem toInt_small (k : Fin 8192) : (BitVec.ofNat 32 k.val).toInt = k.val := by
  have hk := k.isLt
  have hm : (BitVec.ofNat 32 k.val).toNat = k.val := by rw [BitVec.toNat_ofNat]; omega
  rw [BitVec.toInt_eq_toNat_of_lt (by rw [hm]; omega), hm]

/-- The sum over an image's two pixel axes. -/
theorem sum_pixels4 (x : S64x128x64x64.Idx → EReal) (n : Fin 64) (l : Fin 128) :
    Ideal.hostReduceAdd reducesTo_S64x128x64x64_S64x128_d3_2 x 0 (ix2 n l) = ∑ i : Fin 64, ∑ j : Fin 64, x (ix4 n l i j) := by
  unfold Ideal.hostReduceAdd
  rw [zero_add, ← Fintype.sum_prod_type' (f := fun i j => x (ix4 n l i j))]
  refine Finset.sum_bij' (fun i _ => ((i 2 : Fin 64), (i 3 : Fin 64))) (fun q _ => ix4 n l q.1 q.2)
    (fun _ _ => Finset.mem_univ _) ?_ ?_ ?_ ?_
  · intro q _
    simp only [Finset.mem_filter, Finset.mem_univ, true_and]
    funext a
    match a with
    | ⟨0, _⟩ => rfl
    | ⟨1, _⟩ => rfl
  · intro i hi
    simp only [Finset.mem_filter, Finset.mem_univ, true_and] at hi
    funext a
    match a with
    | ⟨0, _⟩ => exact (congrFun hi 0).symm
    | ⟨1, _⟩ => exact (congrFun hi 1).symm
    | ⟨2, _⟩ => rfl
    | ⟨3, _⟩ => rfl
  · intro q _; rfl
  · intro i hi
    simp only [Finset.mem_filter, Finset.mem_univ, true_and] at hi
    congr 1
    funext a
    match a with
    | ⟨0, _⟩ => exact (congrFun hi 0)
    | ⟨1, _⟩ => exact (congrFun hi 1)
    | ⟨2, _⟩ => rfl
    | ⟨3, _⟩ => rfl

/-- The means are the band means. -/
theorem means_apply (x : FVec Ideal S64x128x64x64 .f32) (n : Fin 64) (l : Fin 128) :
    means x (ix2 n l) = bandMean (fun l i j => x (ix4 n l i j)) l := by
  pointwise [means]
  rw [word_4096, div_coe _ _ (by norm_num)]
  exact congrArg (· * _) (sum_pixels4 x n l)

/-- The channel holds the means. -/
theorem channel_apply (p : FVec Ideal S64x128 .f32) (n : Fin 64) (l : Fin 128) :
    channel p (ix3 n 0 l) = p (ix2 n l) := by
  pointwise [channel]

/-- The padded array's three windows are the band to the left, the band itself and the band to the right. -/
theorem padded_left (z : FVec Ideal S64x64x128 .f32) (n i : Fin 64) (l : Fin 128) (h : l.val < 130) :
    padded z (ix3 n i ⟨l.val, h⟩) = left (fun l => z (ix3 n i l)) l := by
  pointwise [padded]
  by_cases hl : l.val = 0
  · rw [dif_neg (by omega), left, if_pos hl]; simp [FloatOps.sitofp]
  · rw [dif_pos (by omega), left, if_neg hl]

/-- The second window is the band itself. -/
theorem padded_mid (z : FVec Ideal S64x64x128 .f32) (n i : Fin 64) (l : Fin 128) (h : 1 + l.val < 130) :
    padded z (ix3 n i ⟨1 + l.val, h⟩) = z (ix3 n i l) := by
  pointwise [padded]

/-- The third window is the band to the right. -/
theorem padded_right (z : FVec Ideal S64x64x128 .f32) (n i : Fin 64) (l : Fin 128) (h : 2 + l.val < 130) :
    padded z (ix3 n i ⟨2 + l.val, h⟩) = right (fun l => z (ix3 n i l)) l := by
  pointwise [padded]
  by_cases hl : l.val + 1 < 128
  · rw [dif_pos (by omega), right, dif_pos hl]
    exact congrArg z (congrArg (ix3 n _) (Fin.ext (show 2 + l.val - 1 = l.val + 1 by omega)))
  · rw [dif_neg (by omega), right, dif_neg hl]; simp [FloatOps.sitofp]

/-- Of one channel too the first window is the band to the left. -/
theorem padded1_left (z : FVec Ideal S64x1x128 .f32) (n : Fin 64) (l : Fin 128) (h : l.val < 130) :
    padded1 z (ix3 n 0 ⟨l.val, h⟩) = left (fun l => z (ix3 n 0 l)) l := by
  pointwise [padded1]
  by_cases hl : l.val = 0
  · rw [dif_neg (by omega), left, if_pos hl]; simp [FloatOps.sitofp]
  · rw [dif_pos (by omega), left, if_neg hl]

/-- Of one channel too the second window is the band itself. -/
theorem padded1_mid (z : FVec Ideal S64x1x128 .f32) (n : Fin 64) (l : Fin 128) (h : 1 + l.val < 130) :
    padded1 z (ix3 n 0 ⟨1 + l.val, h⟩) = z (ix3 n 0 l) := by
  pointwise [padded1]

/-- Of one channel too the third window is the band to the right. -/
theorem padded1_right (z : FVec Ideal S64x1x128 .f32) (n : Fin 64) (l : Fin 128) (h : 2 + l.val < 130) :
    padded1 z (ix3 n 0 ⟨2 + l.val, h⟩) = right (fun l => z (ix3 n 0 l)) l := by
  pointwise [padded1]
  by_cases hl : l.val + 1 < 128
  · rw [dif_pos (by omega), right, dif_pos hl]
    exact congrArg z (congrArg (ix3 n _) (Fin.ext (show 2 + l.val - 1 = l.val + 1 by omega)))
  · rw [dif_neg (by omega), right, dif_neg hl]; simp [FloatOps.sitofp]

/-- A later layer is a convolution with its bias and rectifier. -/
theorem layer_apply (z : FVec Ideal S64x64x128 .f32) (W : FVec Ideal S64x64x3 .f32) (b : FVec Ideal S64 .f32)
    (n o : Fin 64) (l : Fin 128) :
    layer z W b (ix3 n o l) = conv (fun o i k => W (ix3 o i k)) (fun o => b (ix1 o)) (fun i l => z (ix3 n i l)) o l := by
  pointwise [layer, activate]
  simp only [padded_left, padded_mid, padded_right, conv, mul_comm]

/-- So is the first layer. -/
theorem layer1_apply (z : FVec Ideal S64x1x128 .f32) (W : FVec Ideal S64x1x3 .f32) (b : FVec Ideal S64 .f32)
    (n o : Fin 64) (l : Fin 128) :
    layer1 z W b (ix3 n o l) = conv (fun o i k => W (ix3 o i k)) (fun o => b (ix1 o)) (fun i l => z (ix3 n i l)) o l := by
  pointwise [layer1, activate]
  simp only [padded1_left, padded1_mid, padded1_right, conv, mul_comm, Finset.univ_unique, Finset.sum_singleton]
  rfl

/-- The mean of the features over the bands. -/
theorem pooled_apply (h : FVec Ideal S64x64x128 .f32) (n o : Fin 64) :
    pooled h (ix2 n o) = (∑ l, h (ix3 n o l)) * ((1 / 128 : ℝ) : EReal) := by
  pointwise [pooled]
  rw [word_128, div_coe _ _ (by norm_num)]

/-- The distances, entry by entry. -/
theorem distances_apply (P : Params) (z : FVec Ideal S64x64 .f32) (cb : FVec Ideal S8192x64 .f32)
    (hcb : ∀ k j, cb (ix2 k j) = P.code k j) (n : Fin 64) (k : Fin 8192) :
    distances z cb (ix2 n k) = dist P (fun j => z (ix2 n j)) k := by
  pointwise [distances]
  simp only [word_two, hcb, mul_assoc]
  rw [← coe_mul_sum _ _ (by norm_num)]
  rfl

/-- From a real code the quantized code is reached exactly. -/
theorem straight_apply (z q : FVec Ideal S64x64 .f32) (n j : Fin 64) (hz : ∃ r : ℝ, z (ix2 n j) = r) :
    straight z q (ix2 n j) = q (ix2 n j) := by
  pointwise [straight]
  obtain ⟨r, hr⟩ := hz
  rw [hr, coe_add_sub_self]

/-- The decoder, entry by entry. -/
theorem decoded_apply (q : FVec Ideal S64x64 .f32) (Wd : FVec Ideal S128x64 .f32) (bd : FVec Ideal S128 .f32)
    (n : Fin 64) (l : Fin 128) :
    decoded q Wd bd (ix2 n l) = ∑ j, q (ix2 n j) * Wd (ix2 l j) + bd (ix1 l) := by
  pointwise [decoded]

/-- The reconstruction loss as a mean of squares. -/
theorem lossR_apply (r p : FVec Ideal S64x128 .f32) (i : S_.Idx) :
    lossR r p i = (∑ n : Fin 64, ∑ l : Fin 128, (r (ix2 n l) - p (ix2 n l)) * (r (ix2 n l) - p (ix2 n l)))
      * ((1 / 8192 : ℝ) : EReal) := by
  pointwise [lossR]
  rw [word_8192, div_coe _ _ (by norm_num)]

/-- The quantization loss: the mean of squares and a quarter of it. -/
theorem lossQ_apply (q z : FVec Ideal S64x64 .f32) (i : S_.Idx) :
    lossQ q z i = (∑ n : Fin 64, ∑ j : Fin 64, (q (ix2 n j) - z (ix2 n j)) * (q (ix2 n j) - z (ix2 n j)))
      * ((5 / 16384 : ℝ) : EReal) := by
  pointwise [lossQ, meanSq]
  rw [word_4096, word_quarter, div_coe _ _ (by norm_num), mul_left_comm, ← EReal.coe_mul,
    ← EReal.left_distrib_of_nonneg (by norm_num) (by norm_num), ← EReal.coe_add]
  norm_num

/-- An index of the codebook is not negative, so it stays as it is. -/
theorem wrapped_apply (i : Vec Ideal S64 .i32) (n : Fin 64) (k : Fin 8192) (hi : i (ix1 n) = BitVec.ofNat 32 k.val) :
    wrapped i (ix2 n 0) = BitVec.ofNat 32 k.val := by
  pointwise [wrapped]
  rw [hi]
  have h : IntOp.cmpi .slt (BitVec.ofNat 32 k.val) 0#32 = 0#1 := by
    show BitVec.ofBool (BitVec.slt _ _) = 0#1
    rw [BitVec.slt, toInt_small k, decide_eq_false (by simp)]
    rfl
  rw [h]
  rfl

/-- An index of the codebook lies in the codebook. -/
theorem inside_apply (i : Vec Ideal S64x1 .i32) (n : Fin 64) (k : Fin 8192) (hi : i (ix2 n 0) = BitVec.ofNat 32 k.val) :
    inside i (ix1 n) = 1#1 := by
  pointwise [inside]
  rw [Finset.univ_unique, Finset.fold_singleton]
  have hk := k.isLt
  have h1 : IntOp.cmpi .sge (BitVec.ofNat 32 k.val) 0#32 = 1#1 := by
    show BitVec.ofBool (BitVec.sle _ _) = 1#1
    rw [BitVec.sle, toInt_small k]
    simp
  have h2 : IntOp.cmpi .sle (BitVec.ofNat 32 k.val) 8191#32 = 1#1 := by
    show BitVec.ofBool (BitVec.sle _ _) = 1#1
    rw [BitVec.sle, toInt_small k, decide_eq_true (by show ((k.val : ℕ) : ℤ) ≤ 8191; omega)]
    rfl
  show IntOp.andi (IntOp.andi (IntOp.cmpi .sge (i (ix2 n 0)) 0#32) (IntOp.cmpi .sle (i (ix2 n 0)) 8191#32)) 1#1 = 1#1
  rw [hi, h1, h2]
  rfl

/-- The row taken at an index of the codebook. -/
theorem taken_apply (cb : FVec Ideal S8192x64 .f32) (i : Vec Ideal S64 .i32) (n j : Fin 64) (k : Fin 8192)
    (hi : i (ix1 n) = BitVec.ofNat 32 k.val) :
    taken cb i (ix2 n j) = cb (ix2 k j) := by
  pointwise [taken]
  rw [inside_apply _ n k (wrapped_apply i n k hi)]
  exact Routing.gather_row _ rfl rfl rfl rfl rfl cb (wrapped i) n j k (wrapped_apply i n k hi) (by norm_num)

end Cert.VQ.Ref

end
-- ==== Proof.RefChosen.lean ====
/-
  The reference's argmin: the fold over a row's pairs (distance, index) is the row's first least distance.
-/
module

public import proofs.«01_k».proof.Proof.RefStages

@[expose] public section

set_option maxRecDepth 16384

noncomputable section

namespace Cert.VQ.Ref

open Cert.ReferenceIdeal Cert.ReferenceIdeal.Gen Idealize.ShloMosaic

/-- The order of the pairs: by the distance, then by the index. -/
def Before (a b : EReal × BitVec 32) : Prop := a.1 < b.1 ∨ (a.1 = b.1 ∧ a.2.toInt ≤ b.2.toInt)

/-- A pair comes before itself. -/
theorem Before.refl (a : EReal × BitVec 32) : Before a a := .inr ⟨rfl, le_rfl⟩

/-- The order is transitive. -/
theorem Before.trans {a b c : EReal × BitVec 32} (h : Before a b) (h' : Before b c) : Before a c := by
  rcases h with h | ⟨e, h⟩ <;> rcases h' with h' | ⟨e', h'⟩
  · exact .inl (h.trans h')
  · exact .inl (e' ▸ h)
  · exact .inl (e ▸ h')
  · exact .inr ⟨e.trans e', h.trans h'⟩

/-- The reference's comparison of two pairs keeps one of the two, and one that comes before both. -/
theorem reducer_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨x, i⟩ := a
  obtain ⟨y, j⟩ := b
  have hne : FloatOps.cmpf (F := Ideal) (φ := .f32) .une x x = 0#1 := by simp [FloatOps.cmpf, Ideal.cmp]
  rcases lt_trichotomy x y with h | h | h
  · have e1 : FloatOps.cmpf (F := Ideal) (φ := .f32) .olt x y = 1#1 := by simp [FloatOps.cmpf, Ideal.cmp, h]
    have e2 : FloatOps.cmpf (F := Ideal) (φ := .f32) .oeq x y = 0#1 := by simp [FloatOps.cmpf, Ideal.cmp, h.ne]
    have e : reducer_argmin_f32_i32 (F := Ideal) (x, i) (y, j) = (x, i) := by
      simp [reducer_argmin_f32_i32, hne, e1, e2, IntOp.ori, IntOp.andi, Scalar.select]
    rw [e]
    exact ⟨.inl rfl, Before.refl _, .inl h⟩
  · subst h
    have e1 : FloatOps.cmpf (F := Ideal) (φ := .f32) .olt x x = 0#1 := by simp [FloatOps.cmpf, Ideal.cmp]
    have e2 : FloatOps.cmpf (F := Ideal) (φ := .f32) .oeq x x = 1#1 := by simp [FloatOps.cmpf, Ideal.cmp]
    by_cases hs : i.slt j
    · have e3 : IntOp.cmpi .slt i j = 1#1 := by simp [IntOp.cmpi, hs]
      have e : reducer_argmin_f32_i32 (F := Ideal) (x, i) (x, j) = (x, i) := by
        simp [reducer_argmin_f32_i32, hne, e1, e2, e3, IntOp.ori, IntOp.andi, Scalar.select]
      rw [e]
      exact ⟨.inl rfl, Before.refl _, .inr ⟨rfl, (BitVec.slt_iff_toInt_lt.1 hs).le⟩⟩
    · have e3 : IntOp.cmpi .slt i j = 0#1 := by simp [IntOp.cmpi, hs]
      have e : reducer_argmin_f32_i32 (F := Ideal) (x, i) (x, j) = (x, j) := by
        simp [reducer_argmin_f32_i32, hne, e1, e2, e3, IntOp.ori, IntOp.andi, Scalar.select]
      rw [e]
      exact ⟨.inr rfl, .inr ⟨rfl, not_lt.1 fun hl => hs (BitVec.slt_iff_toInt_lt.2 hl)⟩, Before.refl _⟩
  · have e1 : FloatOps.cmpf (F := Ideal) (φ := .f32) .olt x y = 0#1 := by simp [FloatOps.cmpf, Ideal.cmp, not_lt.2 h.le]
    have e2 : FloatOps.cmpf (F := Ideal) (φ := .f32) .oeq x y = 0#1 := by simp [FloatOps.cmpf, Ideal.cmp, h.ne']
    have e : reducer_argmin_f32_i32 (F := Ideal) (x, i) (y, j) = (y, j) := by
      simp [reducer_argmin_f32_i32, hne, e1, e2, IntOp.ori, IntOp.andi, Scalar.select]
    rw [e]
    exact ⟨.inr rfl, .inl h, Before.refl _⟩

/-- The fold of a list of pairs from a pair ends in one of them that comes before them all. -/
theorem foldl_spec (L : List (EReal × BitVec 32)) (a : EReal × BitVec 32) :
    (L.foldl (reducer_argmin_f32_i32 (F := Ideal)) a = a ∨ L.foldl (reducer_argmin_f32_i32 (F := Ideal)) a ∈ L)
      ∧ Before (L.foldl (reducer_argmin_f32_i32 (F := Ideal)) a) a
      ∧ ∀ b ∈ L, Before (L.foldl (reducer_argmin_f32_i32 (F := Ideal)) a) b := by
  induction L generalizing a with
  | nil => exact ⟨.inl rfl, Before.refl _, fun b hb => absurd hb List.not_mem_nil⟩
  | cons c L ih =>
    obtain ⟨hm, ha, hL⟩ := ih (reducer_argmin_f32_i32 (F := Ideal) a c)
    obtain ⟨hr, hra, hrc⟩ := reducer_spec a c
    rw [List.foldl_cons]
    refine ⟨?_, ha.trans hra, fun b hb => ?_⟩
    · rcases hm with hm | hm
      · rcases hr with hr | hr
        · exact .inl (hm.trans hr)
        · exact .inr (by rw [hm, hr]; exact List.mem_cons_self)
      · exact .inr (List.mem_cons_of_mem _ hm)
    · rcases List.mem_cons.1 hb with rfl | hb
      · exact ha.trans hrc
      · exact hL b hb

/-- The pairs folded for row `n` are that row's distances with their indices. -/
theorem mem_fiber (d : FVec Ideal S64x8192 .f32) (n : Fin 64) (q : EReal × BitVec 32) :
    q ∈ Host.argReduceFiber d (iotaInDim S64x8192 32 1) reducesTo_S64x8192_S64_d1 (ix1 n)
      ↔ ∃ k : Fin 8192, q = (d (ix2 n k), BitVec.ofNat 32 k.val) := by
  simp only [Host.argReduceFiber, List.mem_map, List.mem_filter, List.mem_finRange, true_and, decide_eq_true_eq]
  constructor
  · rintro ⟨m, hm, rfl⟩
    generalize S64x8192.rowMajor.symm m = i at hm ⊢
    have hi : i = ix2 n (i 1 : Fin 8192) := by
      funext a
      match a with
      | ⟨0, _⟩ => exact congrFun hm 0
      | ⟨1, _⟩ => rfl
    exact ⟨i 1, Prod.ext (congrArg d hi) rfl⟩
  · rintro ⟨k, rfl⟩
    refine ⟨S64x8192.rowMajor (ix2 n k), ?_, ?_⟩
    · rw [Equiv.symm_apply_apply]
      funext a
      match a with
      | ⟨0, _⟩ => rfl
    · rw [Equiv.symm_apply_apply]; rfl

/-- The chosen index of a row whose first least distance is at `k`. -/
theorem chosen_apply (d : FVec Ideal S64x8192 .f32) (n : Fin 64) (k : Fin 8192)
    (hk : IsFirstMin (fun k => d (ix2 n k)) k) : chosen d (ix1 n) = BitVec.ofNat 32 k.val := by
  have toInt_small : ∀ k : Fin 8192, (BitVec.ofNat 32 k.val).toInt = k.val := fun k => by
    have hk := k.isLt
    have hm : (BitVec.ofNat 32 k.val).toNat = k.val := by rw [BitVec.toNat_ofNat]; omega
    rw [BitVec.toInt_eq_toNat_of_lt (by rw [hm]; omega), hm]
  unfold chosen
  rw [Ideal.argReduce_eq_reduce2, Host.reduce2_eq_foldl_fiber]
  show (List.foldl _ (Ideal.ofBits .f32 0x7F800000#32, 0#32) _).2 = _
  rw [word_top]
  obtain ⟨hm, ha, hL⟩ := foldl_spec
    (Host.argReduceFiber d (iotaInDim S64x8192 32 1) reducesTo_S64x8192_S64_d1 (ix1 n)) (⊤, 0#32)
  have hq := hL _ ((mem_fiber d n _).2 ⟨k, rfl⟩)
  rcases hm with hm | hm
  · rw [hm] at hq ⊢
    have ht : d (ix2 n k) = ⊤ := by
      rcases hq with hq | ⟨hq, _⟩
      · exact absurd hq not_top_lt
      · exact hq.symm
    have h0 : ¬ (0 : Fin 8192) < k := fun h0 => absurd (show d (ix2 n k) < d (ix2 n 0) from hk.2 0 h0) (by rw [ht]; exact not_top_lt)
    have : k = 0 := le_antisymm (not_lt.1 h0) (Fin.zero_le _)
    rw [this]
    rfl
  · obtain ⟨j, hj⟩ := (mem_fiber d n _).1 hm
    rw [hj] at hq ⊢
    have hjk : d (ix2 n j) = d (ix2 n k) ∧ j.val ≤ k.val := by
      rcases hq with hq | ⟨e, hq⟩
      · exact absurd hq (not_lt.2 (hk.1 j))
      · rw [toInt_small, toInt_small] at hq
        exact ⟨e, by exact_mod_cast hq⟩
    have : ¬ j < k := fun h => absurd (show d (ix2 n k) < d (ix2 n j) from hk.2 j h) (by rw [hjk.1]; exact lt_irrefl _)
    have : j = k := le_antisymm hjk.2 (not_lt.1 this)
    rw [this]

end Cert.VQ.Ref

end
-- ==== Proof.RefResults.lean ====
/-
  The reference's run: every result as the stages of the arguments, and entry by entry as the specification.
-/
module

public import proofs.«01_k».proof.Proof.RefValue
public import proofs.«01_k».proof.Proof.RefChosen
public import proofs.«01_k».proof.Proof.RealCode

@[expose] public section

set_option maxRecDepth 16384

noncomputable section

namespace Cert.VQ.Ref

open Cert.ReferenceIdeal Cert.ReferenceIdeal.Gen Idealize.ShloMosaic Idealize.ShloMosaic.StableHlo Idealize.SL.Sem

/-- The twelve arguments. -/
structure Args where
  x : FVec Ideal S64x128x64x64 .f32
  W1 : FVec Ideal S64x1x3 .f32
  b1 : FVec Ideal S64 .f32
  W2 : FVec Ideal S64x64x3 .f32
  b2 : FVec Ideal S64 .f32
  W3 : FVec Ideal S64x64x3 .f32
  b3 : FVec Ideal S64 .f32
  W4 : FVec Ideal S64x64x3 .f32
  b4 : FVec Ideal S64 .f32
  code : FVec Ideal S8192x64 .f32
  Wd : FVec Ideal S128x64 .f32
  bd : FVec Ideal S128 .f32

namespace Args

variable (A : Args)

/-- The arguments' weights, biases and codebook, entry by entry. -/
def params : Params where
  W1 o i k := A.W1 (ix3 o i k)
  b1 o := A.b1 (ix1 o)
  W2 o i k := A.W2 (ix3 o i k)
  b2 o := A.b2 (ix1 o)
  W3 o i k := A.W3 (ix3 o i k)
  b3 o := A.b3 (ix1 o)
  W4 o i k := A.W4 (ix3 o i k)
  b4 o := A.b4 (ix1 o)
  code k j := A.code (ix2 k j)
  Wd l j := A.Wd (ix2 l j)
  bd l := A.bd (ix1 l)

/-- The band means of image `n`. -/
def bands (n : Fin 64) : Fin 128 → EReal := bandMean fun l i j => A.x (ix4 n l i j)

/-- The features after the four layers. -/
def encoded : FVec Ideal S64x64x128 .f32 :=
  layer (layer (layer (layer1 (channel (means A.x)) A.W1 A.b1) A.W2 A.b2) A.W3 A.b3) A.W4 A.b4

/-- The codes. -/
def codes : FVec Ideal S64x64 .f32 := pooled A.encoded

/-- The chosen indices. -/
def picks : Vec Ideal S64 .i32 := chosen (distances A.codes A.code)

/-- The chosen rows. -/
def rows : FVec Ideal S64x64 .f32 := taken A.code A.picks

/-- The reconstruction. -/
def output : FVec Ideal S64x128 .f32 := decoded (straight A.codes A.rows) A.Wd A.bd

/-! ## Entry by entry -/

/-- The means are the band means. -/
theorem means_bands (n : Fin 64) (l : Fin 128) : means A.x (ix2 n l) = A.bands n l := means_apply A.x n l

/-- The features are the four layers over the band means. -/
theorem encoded_apply (n o : Fin 64) (l : Fin 128) : A.encoded (ix3 n o l) = features A.params (A.bands n) o l := by
  have hc : (fun (i : Fin 1) l => channel (means A.x) (ix3 n i l)) = fun _ => A.bands n := by
    funext i l
    obtain rfl : i = 0 := Subsingleton.elim _ _
    rw [channel_apply, means_bands]
  unfold encoded features
  simp only [layer_apply, layer1_apply, hc]
  rfl

/-- The codes are the latent codes. -/
theorem codes_apply (n o : Fin 64) : A.codes (ix2 n o) = latent A.params (A.bands n) o := by
  unfold codes latent
  rw [pooled_apply]
  simp only [encoded_apply]

/-- The chosen index is the nearest row's. -/
theorem picks_apply (n : Fin 64) : A.picks (ix1 n) = BitVec.ofNat 32 (index A.params (A.bands n)).val := by
  have hd : (fun k => distances A.codes A.code (ix2 n k)) = dist A.params (latent A.params (A.bands n)) := by
    funext k
    rw [distances_apply A.params _ _ (fun _ _ => rfl)]
    exact congrArg (dist A.params · k) (funext fun j => A.codes_apply n j)
  exact chosen_apply _ n _ (hd ▸ nearest_spec A.params _)

/-- The chosen rows are the quantized codes. -/
theorem rows_apply (n j : Fin 64) : A.rows (ix2 n j) = quant A.params (A.bands n) j :=
  taken_apply A.code A.picks n j _ (A.picks_apply n)

/-- The codes are real. -/
def CodesReal : Prop := ∀ n o, IsReal (latent A.params (A.bands n) o)

variable {A}

/-- The quantized codes reached from real codes are the chosen rows. -/
theorem straight_rows (hA : A.CodesReal) (n j : Fin 64) :
    straight A.codes A.rows (ix2 n j) = quant A.params (A.bands n) j := by
  rw [straight_apply _ _ _ _ (by rw [codes_apply]; exact hA n j), rows_apply]

/-- The output is the reconstruction. -/
theorem output_apply (hA : A.CodesReal) (n : Fin 64) (l : Fin 128) :
    A.output (ix2 n l) = recon A.params (A.bands n) l := by
  unfold output
  rw [decoded_apply]
  simp only [straight_rows hA]
  rfl

/-- The output's loss is the reconstruction loss. -/
theorem lossR_output (hA : A.CodesReal) (i : S_.Idx) :
    lossR A.output (means A.x) i = reconLoss A.params A.bands := by
  rw [lossR_apply]
  simp only [output_apply hA, means_bands]
  rfl

/-- The rows' loss is the quantization loss. -/
theorem lossQ_rows (A : Args) (i : S_.Idx) : lossQ A.rows A.codes i = quantLoss A.params A.bands := by
  rw [lossQ_apply]
  simp only [rows_apply, codes_apply]
  rfl

end Args

/-! ## The run -/

/-- The arguments that a valuation holds. -/
def argsOf (V : Valuation τ sig (Elt Ideal)) : Args where
  x := V (Proc.devRef .tc main_arg0)
  W1 := V (Proc.devRef .tc main_arg1)
  b1 := V (Proc.devRef .tc main_arg2)
  W2 := V (Proc.devRef .tc main_arg3)
  b2 := V (Proc.devRef .tc main_arg4)
  W3 := V (Proc.devRef .tc main_arg5)
  b3 := V (Proc.devRef .tc main_arg6)
  W4 := V (Proc.devRef .tc main_arg7)
  b4 := V (Proc.devRef .tc main_arg8)
  code := V (Proc.devRef .tc main_arg9)
  Wd := V (Proc.devRef .tc main_arg10)
  bd := V (Proc.devRef .tc main_arg11)

/-- Two sequences of operations run one after the other. -/
theorem after_two {F : FTy → Type} (l₁ l₂ : List (HloOp τ sig (Elt F))) (V : Valuation τ sig (Elt F)) :
    after (l₁ ++ l₂) V = after l₂ (after l₁ V) := by
  induction l₁ generalizing V with
  | nil => rfl
  | cons op l ih => exact ih _

variable (V : Valuation τ sig (Elt Ideal))

/-- The valuation after the operations up to and including the argmin. -/
def mid : Valuation τ sig (Elt Ideal) :=
  after opsArgmin (after opsDist (after opsPool (after opsConv4 (after opsConv3b (after opsConv3a
    (after opsConv2 (after opsConv1 (after opsMean V))))))))

/-- All operations are those up to the argmin and then the last three groups. -/
theorem after_ops : after ops V = after opsLosses (after opsRecon (after opsTake (mid V))) := by
  simp only [ops, after_two, mid]

/-- What no operation up to the argmin writes is kept. -/
theorem mid_keep (r : Ref sig .tc) (h : r ∉ writesMean ∧ r ∉ writesConv1 ∧ r ∉ writesConv2 ∧ r ∉ writesConv3a
    ∧ r ∉ writesConv3b ∧ r ∉ writesConv4 ∧ r ∉ writesPool ∧ r ∉ writesDist ∧ r ∉ writesArgmin) :
    mid V (Proc.devRef .tc r) = V (Proc.devRef .tc r) := by
  obtain ⟨h1, h2, h3, h4, h5, h6, h7, h8, h9⟩ := h
  unfold mid
  rw [keepArgmin _ _ h9, keepDist _ _ h8, keepPool _ _ h7, keepConv4 _ _ h6, keepConv3b _ _ h5, keepConv3a _ _ h4,
    keepConv2 _ _ h3, keepConv1 _ _ h2, keepMean _ _ h1]

/-- The means after the argmin. -/
theorem mid_means : mid V (Proc.devRef .tc main_v2) = means (V (Proc.devRef .tc main_arg0)) := by
  unfold mid
  rw [keepArgmin _ _ (by decide), keepDist _ _ (by decide), keepPool _ _ (by decide), keepConv4 _ _ (by decide),
    keepConv3b _ _ (by decide), keepConv3a _ _ (by decide), keepConv2 _ _ (by decide), keepConv1 _ _ (by decide), mean_means]

/-- The codes after the pooling. -/
theorem pool_codes : after opsPool (after opsConv4 (after opsConv3b (after opsConv3a (after opsConv2 (after opsConv1
    (after opsMean V)))))) (Proc.devRef .tc main_v94) = (argsOf V).codes := by
  rw [pool_pooled, conv4_layer, conv3_layer, conv2_layer, conv1_layer, mean_channel]
  rw [keepMean _ main_arg1 (by decide), keepMean _ main_arg2 (by decide),
    keepConv1 _ main_arg3 (by decide), keepMean _ main_arg3 (by decide),
    keepConv1 _ main_arg4 (by decide), keepMean _ main_arg4 (by decide),
    keepConv2 _ main_arg5 (by decide), keepConv1 _ main_arg5 (by decide), keepMean _ main_arg5 (by decide),
    keepConv2 _ main_arg6 (by decide), keepConv1 _ main_arg6 (by decide), keepMean _ main_arg6 (by decide),
    keepConv3b _ main_arg7 (by decide), keepConv3a _ main_arg7 (by decide), keepConv2 _ main_arg7 (by decide), keepConv1 _ main_arg7 (by decide), keepMean _ main_arg7 (by decide),
    keepConv3b _ main_arg8 (by decide), keepConv3a _ main_arg8 (by decide), keepConv2 _ main_arg8 (by decide), keepConv1 _ main_arg8 (by decide), keepMean _ main_arg8 (by decide)]
  rfl

/-- The codes after the argmin. -/
theorem mid_codes : mid V (Proc.devRef .tc main_v94) = (argsOf V).codes := by
  unfold mid
  rw [keepArgmin _ _ (by decide), keepDist _ _ (by decide), pool_codes]

/-- The indices after the argmin. -/
theorem mid_picks : mid V (Proc.devRef .tc main_v109) = (argsOf V).picks := by
  unfold mid
  rw [argmin_chosen, dist_distances, pool_codes]
  rw [keepPool _ main_arg9 (by decide), keepConv4 _ main_arg9 (by decide), keepConv3b _ main_arg9 (by decide), keepConv3a _ main_arg9 (by decide), keepConv2 _ main_arg9 (by decide), keepConv1 _ main_arg9 (by decide), keepMean _ main_arg9 (by decide)]
  rfl

/-- The rows taken after the argmin. -/
theorem take_rows : after opsTake (mid V) (Proc.devRef .tc main_v110) = (argsOf V).rows := by
  rw [take_taken, mid_picks, mid_keep _ _ (by decide)]
  rfl

/-- The reconstruction after its operations. -/
theorem recon_output : after opsRecon (after opsTake (mid V)) (Proc.devRef .tc main_v117) = (argsOf V).output := by
  rw [recon_decoded, take_rows, keepTake _ _ (by decide), keepTake _ _ (by decide), keepTake _ _ (by decide), mid_codes,
    mid_keep _ _ (by decide), mid_keep _ _ (by decide)]
  rfl

/-- The reconstruction at the end. -/
theorem end_output : after ops V (Proc.devRef .tc main_v117) = (argsOf V).output := by
  rw [after_ops, keepLosses _ _ (by decide), recon_output]

/-- The quantized codes at the end. -/
theorem end_straight : after ops V (Proc.devRef .tc main_v112) = straight (argsOf V).codes (argsOf V).rows := by
  rw [after_ops, keepLosses _ _ (by decide), recon_straight, take_rows, keepTake _ _ (by decide), mid_codes]

/-- The indices at the end. -/
theorem end_index : after ops V (Proc.devRef .tc main_v133) = shapeCast S64x1 (argsOf V).picks shapeCasts_S64_S64x1 := by
  rw [after_ops, losses_index, keepRecon _ _ (by decide), keepTake _ _ (by decide), mid_picks]

/-- The loss at the end. -/
theorem end_loss : after ops V (Proc.devRef .tc main_v134)
    = shapeCast S1x1 (addf (lossR (argsOf V).output (means (argsOf V).x)) (lossQ (argsOf V).rows (argsOf V).codes))
        shapeCasts_S_S1x1 := by
  rw [after_ops, losses_loss, recon_output, keepRecon _ _ (by decide), keepTake _ _ (by decide), mid_means,
    keepRecon _ _ (by decide), take_rows, keepRecon _ _ (by decide), keepTake _ _ (by decide), mid_codes]
  rfl

/-- The reconstruction loss at the end. -/
theorem end_recon : after ops V (Proc.devRef .tc main_v135)
    = shapeCast S1x1 (lossR (argsOf V).output (means (argsOf V).x)) shapeCasts_S_S1x1 := by
  rw [after_ops, losses_recon, recon_output, keepRecon _ _ (by decide), keepTake _ _ (by decide), mid_means]
  rfl

/-- The quantization loss at the end. -/
theorem end_quant : after ops V (Proc.devRef .tc main_v136)
    = shapeCast S1x1 (lossQ (argsOf V).rows (argsOf V).codes) shapeCasts_S_S1x1 := by
  rw [after_ops, losses_quant, keepRecon _ _ (by decide), take_rows, keepRecon _ _ (by decide), keepTake _ _ (by decide),
    mid_codes]

/-- An argument at the end is what it was. -/
theorem end_arg (r : Ref sig .tc) (h : (r ∉ writesMean ∧ r ∉ writesConv1 ∧ r ∉ writesConv2 ∧ r ∉ writesConv3a
    ∧ r ∉ writesConv3b ∧ r ∉ writesConv4 ∧ r ∉ writesPool ∧ r ∉ writesDist ∧ r ∉ writesArgmin)
    ∧ r ∉ writesTake ∧ r ∉ writesRecon ∧ r ∉ writesLosses) :
    after ops V (Proc.devRef .tc r) = V (Proc.devRef .tc r) := by
  rw [after_ops, keepLosses _ _ h.2.2.2, keepRecon _ _ h.2.2.1, keepTake _ _ h.2.1, mid_keep _ _ h.1]

/-! ## The results entry by entry -/

variable {V} (hV : (argsOf V).CodesReal)
include hV

/-- The first result: the reconstruction. -/
theorem output_entry (n : Fin 64) (l : Fin 128) : after ops V (Proc.devRef .tc main_v117) (ix2 n l)
    = recon (argsOf V).params ((argsOf V).bands n) l := by
  rw [end_output]
  exact Args.output_apply hV n l

/-- The second result: the quantized codes. -/
theorem quant_entry (n j : Fin 64) : after ops V (Proc.devRef .tc main_v112) (ix2 n j)
    = quant (argsOf V).params ((argsOf V).bands n) j := by
  rw [end_straight]
  exact Args.straight_rows hV n j

omit hV in
/-- The third result: the indices. -/
theorem index_entry (V : Valuation τ sig (Elt Ideal)) (n : Fin 64) : after ops V (Proc.devRef .tc main_v133) (ix2 n 0)
    = BitVec.ofNat 32 (index (argsOf V).params ((argsOf V).bands n)).val := by
  rw [end_index, ← Args.picks_apply]
  pointwise

/-- The fifth result: the reconstruction loss. -/
theorem recon_entry : after ops V (Proc.devRef .tc main_v135) (ix2 0 0) = reconLoss (argsOf V).params (argsOf V).bands := by
  rw [end_recon]
  exact Args.lossR_output hV _

omit hV in
/-- The sixth result: the quantization loss. -/
theorem quantLoss_entry (V : Valuation τ sig (Elt Ideal)) :
    after ops V (Proc.devRef .tc main_v136) (ix2 0 0) = quantLoss (argsOf V).params (argsOf V).bands := by
  rw [end_quant]
  exact Args.lossQ_rows _ _

/-- The fourth result: the sum of the two losses. -/
theorem loss_entry : after ops V (Proc.devRef .tc main_v134) (ix2 0 0)
    = reconLoss (argsOf V).params (argsOf V).bands + quantLoss (argsOf V).params (argsOf V).bands := by
  rw [end_loss]
  exact congrArg₂ (· + ·) (Args.lossR_output hV _) (Args.lossQ_rows _ _)

end Cert.VQ.Ref

end
-- ==== Proof.Claims.lean ====
/-
  The claims: the three programs run and leave their arguments as they were; the idealized kernel's results are the
  reference's.
-/
module

public import proofs.«01_k».proof.Defs
public import proofs.«01_k».proof.Proof.Gen.Kernel.Frame
public import proofs.«01_k».proof.Proof.Gen.KernelIdeal.Frame
public import proofs.«01_k».proof.Proof.KernelValue
public import proofs.«01_k».proof.Proof.Pre
public import proofs.«01_k».proof.Proof.RefResults

@[expose] public section

set_option maxRecDepth 16384

noncomputable section

namespace Cert.VQ

open Idealize.ShloMosaic Idealize.ShloMosaic.StableHlo Idealize.SL.Sem

/-! ## The reference's run -/

section Reference

open Cert.ReferenceIdeal Cert.ReferenceIdeal.Gen

variable (m : (ℓ : Loc nD τ sig) → Buf (Elt Ideal) ℓ)

/-- The reference leaves its arguments as they were and its results at the end of its operations. -/
theorem ref_run (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v117) = after Ref.ops (launchContents m c) (Proc.devRef .tc main_v117)
      ∧ r.2.mem ((c.tc : Thread nD τ).loc main_v112) = after Ref.ops (launchContents m c) (Proc.devRef .tc main_v112)
      ∧ r.2.mem ((c.tc : Thread nD τ).loc main_v133) = after Ref.ops (launchContents m c) (Proc.devRef .tc main_v133)
      ∧ r.2.mem ((c.tc : Thread nD τ).loc main_v134) = after Ref.ops (launchContents m c) (Proc.devRef .tc main_v134)
      ∧ r.2.mem ((c.tc : Thread nD τ).loc main_v135) = after Ref.ops (launchContents m c) (Proc.devRef .tc main_v135)
      ∧ r.2.mem ((c.tc : Thread nD τ).loc main_v136) = after Ref.ops (launchContents m c) (Proc.devRef .tc main_v136))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨⟨h c main_v117, h c main_v112, h c main_v133, h c main_v134, h c main_v135, h c main_v136⟩,
    (h c main_arg0).trans (Ref.end_arg _ _ (by decide)), (h c main_arg1).trans (Ref.end_arg _ _ (by decide)),
    (h c main_arg2).trans (Ref.end_arg _ _ (by decide)), (h c main_arg3).trans (Ref.end_arg _ _ (by decide)),
    (h c main_arg4).trans (Ref.end_arg _ _ (by decide)), (h c main_arg5).trans (Ref.end_arg _ _ (by decide)),
    (h c main_arg6).trans (Ref.end_arg _ _ (by decide)), (h c main_arg7).trans (Ref.end_arg _ _ (by decide)),
    (h c main_arg8).trans (Ref.end_arg _ _ (by decide)), (h c main_arg9).trans (Ref.end_arg _ _ (by decide)),
    (h c main_arg10).trans (Ref.end_arg _ _ (by decide)), (h c main_arg11).trans (Ref.end_arg _ _ (by decide))⟩)
    (Ref.run m ρ)

end Reference

/-! ## The arguments of the kernel, and what the precondition says of them -/

section Kernel

open Cert.KernelIdeal

variable (m : (ℓ : Loc nD τ sig) → Buf (Elt Ideal) ℓ) (c : Dev nD)

/-- The arguments in the kernel's memory. -/
def kernelArgs : Ref.Args where
  x := m ((c.tc : Thread nD τ).loc main_arg0)
  W1 := m ((c.tc : Thread nD τ).loc main_arg1)
  b1 := m ((c.tc : Thread nD τ).loc main_arg2)
  W2 := m ((c.tc : Thread nD τ).loc main_arg3)
  b2 := m ((c.tc : Thread nD τ).loc main_arg4)
  W3 := m ((c.tc : Thread nD τ).loc main_arg5)
  b3 := m ((c.tc : Thread nD τ).loc main_arg6)
  W4 := m ((c.tc : Thread nD τ).loc main_arg7)
  b4 := m ((c.tc : Thread nD τ).loc main_arg8)
  code := m ((c.tc : Thread nD τ).loc main_arg9)
  Wd := m ((c.tc : Thread nD τ).loc main_arg10)
  bd := m ((c.tc : Thread nD τ).loc main_arg11)

/-- They are the parameters of the kernel's value. -/
theorem kernelArgs_params : (kernelArgs m c).params = argParams m c := rfl

/-- They have the band means of the kernel's value. -/
theorem kernelArgs_bands : (kernelArgs m c).bands = argMeans m c := rfl

/-- Under the precondition the codes are real. -/
theorem codes_real [Cert.Pre_encoder_finite.Facts] (h : Cert.Pre_KernelIdeal_encoder_finite m) :
    (kernelArgs m c).CodesReal := by
  obtain ⟨hx, ⟨h1, h2⟩, ⟨h3, h4⟩, ⟨h5, h6⟩, h7, h8⟩ := Pre.finite _ _ _ _ _ _ _ _ _ _ _ _ (h c)
  exact fun n o => latent_real
    ⟨fun _ _ _ => h1 _, fun _ => h2 _, fun _ _ _ => h3 _, fun _ => h4 _, fun _ _ _ => h5 _, fun _ => h6 _,
      fun _ _ _ => h7 _, fun _ => h8 _⟩ (bandMean_real fun _ _ _ => hx _) o

end Kernel

/-! ## The claims -/

/-- The kernel runs to its end, its arguments unchanged and its semaphores at zero. -/
theorem frame_kernel : Cert.quiescent_Kernel := fun m ρ _ => Cert.Kernel.Gen.frame m ρ

/-- So does the idealized kernel. -/
theorem frame_kernelIdeal : Cert.quiescent_KernelIdeal := fun m ρ _ => Cert.KernelIdeal.Gen.frame m ρ

/-- So does the idealized kernel under the precondition. -/
theorem frame_kernelIdeal_pre [Cert.Pre_encoder_finite.Facts] : Cert.quiescent_KernelIdeal_pre_encoder_finite :=
  fun m ρ _ => Cert.KernelIdeal.Gen.frame m ρ

/-- So does the reference. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩) (ref_run m ρ)

/-- So does the reference under the precondition. -/
theorem frame_referenceIdeal_pre [Cert.Pre_encoder_finite.Facts] : Cert.quiescent_ReferenceIdeal_pre_encoder_finite :=
  fun m ρ _ => (θ_run Cert.ReferenceIdeal.defs _ _).mono
    (fun r h => ⟨fun c => (h c).2, Idealize.ShloMosaic.sem_eq_zero_of_no_sems (by decide) r.2⟩) (ref_run m ρ)

/-- The idealized kernel preserves the kernel. -/
theorem preserves : Cert.preserves_Kernel_KernelIdeal := trivial

/-- The only index of a one by one array. -/
theorem idx_one (i : (⟨2, ![1, 1]⟩ : Shape).Idx) : i = ix2 0 0 := by
  rw [eq_ix2 i]
  congr 1 <;> exact Subsingleton.elim _ _

/-- An index of a column of 64. -/
theorem idx_column (i : (⟨2, ![64, 1]⟩ : Shape).Idx) : ∃ n : Fin 64, i = ix2 n 0 :=
  ⟨i 0, (eq_ix2 i).trans (congrArg (ix2 (i 0)) (Subsingleton.elim _ _))⟩

/-- Under the precondition, arguments that agree lead the idealized kernel and the reference to the same six results. -/
theorem algebraic [Cert.Pre_encoder_finite.Facts] :
    Cert.algebraic_KernelIdeal_ReferenceIdeal_pre_encoder_finite := by
  intro m ρ m' ρ' hpre hagree
  refine ⟨fun c => Cert.KernelIdeal.Value.G13 m c, fun c => Cert.KernelIdeal.Value.G14 m c,
    fun c => Cert.KernelIdeal.Value.G15 m c, fun c => Cert.KernelIdeal.Value.G16 m c,
    fun c => Cert.KernelIdeal.Value.G17 m c, fun c => Cert.KernelIdeal.Value.G18 m c,
    Cert.KernelIdeal.Value.run (F := Ideal) m ρ, ?_⟩
  refine (θ_run Cert.ReferenceIdeal.defs _ _).mono (fun r h c => ?_) (ref_run m' ρ')
  obtain ⟨⟨e0, e1, e2, e3, e4, e5⟩, hargs⟩ := h c
  obtain ⟨a0, a1, a2, a3, a4, a5, a6, a7, a8, a9, a10, a11⟩ := hagree c
  have hA : Ref.argsOf (launchContents m' c) = kernelArgs m c := by
    exact congr (congr (congr (congr (congr (congr (congr (congr (congr (congr (congr
      (congrArg Ref.Args.mk a0) a1) a2) a3) a4) a5) a6) a7) a8) a9) a10) a11
  have hV : (Ref.argsOf (launchContents m' c)).CodesReal := by
    rw [hA]
    exact codes_real m c hpre
  refine ⟨e0.trans (funext fun i => ?_), e1.trans (funext fun i => ?_), e2.trans (funext fun i => ?_),
    e3.trans (funext fun i => ?_), e4.trans (funext fun i => ?_), e5.trans (funext fun i => ?_), hargs⟩
  · rw [eq_ix2 i]
    exact (Ref.output_entry hV _ _).trans (by rw [hA]; exact (recon_array m c _ _).symm)
  · rw [eq_ix2 i]
    exact (Ref.quant_entry hV _ _).trans (by rw [hA]; exact (quant_array m c _ _).symm)
  · obtain ⟨n, rfl⟩ := idx_column i
    exact (Ref.index_entry _ _).trans (by rw [hA]; exact (index_array m c _).symm)
  · rw [idx_one i]
    exact (Ref.loss_entry hV).trans (by rw [hA]; exact (loss_array m c).symm)
  · rw [idx_one i]
    exact (Ref.recon_entry hV).trans (by rw [hA]; exact (reconLoss_array m c).symm)
  · rw [idx_one i]
    exact (Ref.quantLoss_entry _).trans (by rw [hA]; exact (quantLoss_array m c).symm)

end Cert.VQ

end
-- ==== Proof.lean ====
/-
  The proof of the claims: the three programs' stated facts, the runs, and the agreement of the idealized kernel with
  the reference under the precondition.
-/
module

public import proofs.«01_k».proof.Defs
public import proofs.«01_k».proof.Proof.Claims

@[expose] public section

noncomputable section

namespace Cert.Proof

/-- The claims of the statement. -/
theorem claim : Cert.Claim :=
  haveI := Cert.VQ.Pre.facts
  ⟨Cert.Kernel.Gen.facts, Cert.KernelIdeal.Gen.facts, Cert.ReferenceIdeal.Gen.facts, Cert.VQ.Pre.facts,
    Cert.VQ.frame_kernel, Cert.VQ.frame_kernelIdeal, Cert.VQ.frame_kernelIdeal_pre, Cert.VQ.frame_referenceIdeal,
    Cert.VQ.frame_referenceIdeal_pre, Cert.VQ.preserves, Cert.VQ.algebraic⟩

end Cert.Proof

end
